-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DrawnIdeal (m : (ℓ : Loc Cert.DrawnIdeal.nD Cert.DrawnIdeal.τ Cert.DrawnIdeal.sig) → Buf (Elt Ideal) ℓ) : Prop :=
  True

def Pre_DrawnIdeal_finite [hPre_finite : Cert.Pre_finite.Facts] (m : (ℓ : Loc Cert.DrawnIdeal.nD Cert.DrawnIdeal.τ Cert.DrawnIdeal.sig) → Buf (Elt Ideal) ℓ) : Prop :=
  ∀ c : Dev Cert.DrawnIdeal.nD,
    (Cert.Pre_finite.fn (F := Ideal) (m ((c.tc : Thread Cert.DrawnIdeal.nD Cert.DrawnIdeal.τ).loc Cert.DrawnIdeal.main_arg0)) (m ((c.tc : Thread Cert.DrawnIdeal.nD Cert.DrawnIdeal.τ).loc Cert.DrawnIdeal.main_arg1)) (m ((c.tc : Thread Cert.DrawnIdeal.nD Cert.DrawnIdeal.τ).loc Cert.DrawnIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DrawnIdeal [hDrawnIdeal : Cert.DrawnIdeal.Facts] : Prop :=
  ∀ (m : (ℓ : Loc Cert.DrawnIdeal.nD Cert.DrawnIdeal.τ Cert.DrawnIdeal.sig) → Buf (Elt Ideal) ℓ) (g : Dev Cert.DrawnIdeal.nD → PrngReg), Pre_DrawnIdeal m →
    θ_run (Cert.DrawnIdeal.defs (F := Ideal)) (onTc (τ := Cert.DrawnIdeal.τ) (Cert.DrawnIdeal.main (F := Ideal))) ⟨m, fun _ => 0, g⟩ (fun r => (∀ c : Dev Cert.DrawnIdeal.nD,
      r.2.mem ((c.tc : Thread Cert.DrawnIdeal.nD Cert.DrawnIdeal.τ).loc Cert.DrawnIdeal.main_arg0) = m ((c.tc : Thread Cert.DrawnIdeal.nD Cert.DrawnIdeal.τ).loc Cert.DrawnIdeal.main_arg0)
      ∧ r.2.mem ((c.tc : Thread Cert.DrawnIdeal.nD Cert.DrawnIdeal.τ).loc Cert.DrawnIdeal.main_arg1) = m ((c.tc : Thread Cert.DrawnIdeal.nD Cert.DrawnIdeal.τ).loc Cert.DrawnIdeal.main_arg1)
      ∧ r.2.mem ((c.tc : Thread Cert.DrawnIdeal.nD Cert.DrawnIdeal.τ).loc Cert.DrawnIdeal.main_arg2) = m ((c.tc : Thread Cert.DrawnIdeal.nD Cert.DrawnIdeal.τ).loc Cert.DrawnIdeal.main_arg2))
      ∧ r.2.sem = fun _ => 0)

def quiescent_DrawnIdeal_pre_finite [hDrawnIdeal : Cert.DrawnIdeal.Facts] [hPre_finite : Cert.Pre_finite.Facts] : Prop :=
  ∀ (m : (ℓ : Loc Cert.DrawnIdeal.nD Cert.DrawnIdeal.τ Cert.DrawnIdeal.sig) → Buf (Elt Ideal) ℓ) (g : Dev Cert.DrawnIdeal.nD → PrngReg), Pre_DrawnIdeal_finite m →
    θ_run (Cert.DrawnIdeal.defs (F := Ideal)) (onTc (τ := Cert.DrawnIdeal.τ) (Cert.DrawnIdeal.main (F := Ideal))) ⟨m, fun _ => 0, g⟩ (fun r => (∀ c : Dev Cert.DrawnIdeal.nD,
      r.2.mem ((c.tc : Thread Cert.DrawnIdeal.nD Cert.DrawnIdeal.τ).loc Cert.DrawnIdeal.main_arg0) = m ((c.tc : Thread Cert.DrawnIdeal.nD Cert.DrawnIdeal.τ).loc Cert.DrawnIdeal.main_arg0)
      ∧ r.2.mem ((c.tc : Thread Cert.DrawnIdeal.nD Cert.DrawnIdeal.τ).loc Cert.DrawnIdeal.main_arg1) = m ((c.tc : Thread Cert.DrawnIdeal.nD Cert.DrawnIdeal.τ).loc Cert.DrawnIdeal.main_arg1)
      ∧ r.2.mem ((c.tc : Thread Cert.DrawnIdeal.nD Cert.DrawnIdeal.τ).loc Cert.DrawnIdeal.main_arg2) = m ((c.tc : Thread Cert.DrawnIdeal.nD Cert.DrawnIdeal.τ).loc Cert.DrawnIdeal.main_arg2))
      ∧ r.2.sem = fun _ => 0)

def preserves_Kernel_KernelIdeal : Prop :=
  True

def algebraic_KernelIdeal_DrawnIdeal_pre_finite [hKernelIdeal : Cert.KernelIdeal.Facts] [hDrawnIdeal : Cert.DrawnIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.DrawnIdeal.nD Cert.DrawnIdeal.τ Cert.DrawnIdeal.sig) → Buf (Elt Ideal) ℓ) (g' : Dev Cert.DrawnIdeal.nD → PrngReg), Pre_KernelIdeal_finite m →
    (∀ c : Dev Cert.KernelIdeal.nD,
      m' ((c.tc : Thread Cert.DrawnIdeal.nD Cert.DrawnIdeal.τ).loc Cert.DrawnIdeal.main_arg0) = m ((c.tc : Thread Cert.KernelIdeal.nD Cert.KernelIdeal.τ).loc Cert.KernelIdeal.main_arg0)
      ∧ m' ((c.tc : Thread Cert.DrawnIdeal.nD Cert.DrawnIdeal.τ).loc Cert.DrawnIdeal.main_arg1) = m ((c.tc : Thread Cert.KernelIdeal.nD Cert.KernelIdeal.τ).loc Cert.KernelIdeal.main_arg1)
      ∧ m' ((c.tc : Thread Cert.DrawnIdeal.nD Cert.DrawnIdeal.τ).loc Cert.DrawnIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.DrawnIdeal.defs (F := Ideal)) (onTc (τ := Cert.DrawnIdeal.τ) (Cert.DrawnIdeal.main (F := Ideal))) ⟨m', fun _ => 0, g'⟩ (fun r => ∀ c : Dev Cert.DrawnIdeal.nD,
          r.2.mem ((c.tc : Thread Cert.DrawnIdeal.nD Cert.DrawnIdeal.τ).loc Cert.DrawnIdeal.main_v16) = v0 c
          ∧ r.2.mem ((c.tc : Thread Cert.DrawnIdeal.nD Cert.DrawnIdeal.τ).loc Cert.DrawnIdeal.main_arg0) = m' ((c.tc : Thread Cert.DrawnIdeal.nD Cert.DrawnIdeal.τ).loc Cert.DrawnIdeal.main_arg0)
          ∧ r.2.mem ((c.tc : Thread Cert.DrawnIdeal.nD Cert.DrawnIdeal.τ).loc Cert.DrawnIdeal.main_arg1) = m' ((c.tc : Thread Cert.DrawnIdeal.nD Cert.DrawnIdeal.τ).loc Cert.DrawnIdeal.main_arg1)
          ∧ r.2.mem ((c.tc : Thread Cert.DrawnIdeal.nD Cert.DrawnIdeal.τ).loc Cert.DrawnIdeal.main_arg2) = m' ((c.tc : Thread Cert.DrawnIdeal.nD Cert.DrawnIdeal.τ).loc Cert.DrawnIdeal.main_arg2))

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hDrawnIdeal : Cert.DrawnIdeal.Facts) (hPre_finite : Cert.Pre_finite.Facts) (hPre_separated : Cert.Pre_separated.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ quiescent_DrawnIdeal (hDrawnIdeal := hDrawnIdeal)
    ∧ quiescent_DrawnIdeal_pre_finite (hDrawnIdeal := hDrawnIdeal) (hPre_finite := hPre_finite)
    ∧ preserves_Kernel_KernelIdeal
    ∧ algebraic_KernelIdeal_DrawnIdeal_pre_finite (hKernelIdeal := hKernelIdeal) (hDrawnIdeal := hDrawnIdeal) (hPre_finite := hPre_finite)
    ∧ algebraic_KernelIdeal_ReferenceIdeal_pre_separated (hKernelIdeal := hKernelIdeal) (hReferenceIdeal := hReferenceIdeal) (hPre_separated := hPre_separated)
-- ==== Pre_finite.lean ====
abbrev S16x16 : Shape := ⟨2, ![16, 16]⟩
abbrev S3x256 : Shape := ⟨2, ![3, 256]⟩
abbrev S3 : Shape := ⟨1, ![3]⟩
abbrev S_ : Shape := ⟨0, ![]⟩

class Facts : Prop where
  bcast_S_S16x16 : S_.BroadcastsInDim S16x16 (![] : Fin 0 → Fin S16x16.rank)
  reducesTo_S16x16_S_d0_1 : S16x16.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn {F : FTy → Type} [FloatOps F] (main_arg0 : FVec F S16x16 .f32) (main_arg1 : FVec F S3x256 .f32) (main_arg2 : FVec F S3 .f32) : IVec S_ 1 :=
  let main_v0 : FVec F S16x16 .f32 := Host.absf main_arg0
  let main_cst : FVec F S_ .f32 := constant S_ .f32 0x7F800000#32
  let main_v1 : FVec F S16x16 .f32 := broadcastInDim S16x16 ![] bcast_S_S16x16 main_cst
  let main_v2 : IVec S16x16 1 := cmpf .olt main_v0 main_v1
  let main_c : IVec S_ 1 := constantI S_ 1 1#1
  let main_v3 : IVec S_ 1 := (fun x v => Host.reduce IntOp.andi x v reducesTo_S16x16_S_d0_1 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Pre_separated.lean ====
abbrev S16x16 : Shape := ⟨2, ![16, 16]⟩
abbrev S3x256 : Shape := ⟨2, ![3, 256]⟩
abbrev S3 : Shape := ⟨1, ![3]⟩
abbrev S256 : Shape := ⟨1, ![256]⟩
abbrev S_ : Shape := ⟨0, ![]⟩

class Facts : Prop where
  shapeCasts_S16x16_S256 : S16x16.ShapeCasts S256
  bcast_S_S16x16 : S_.BroadcastsInDim S16x16 (![] : Fin 0 → Fin S16x16.rank)
  reducesTo_S16x16_S_d0_1 : S16x16.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_
  natLt_1_32 : 1 < 32
  dot_S3x256_S256_S3_1_0_0_n_n_n_wf : DotDims.WF S3x256 S256 S3 [1] [0] [0] [] [] []

variable [Facts]

def dot_S3x256_S256_S3_1_0_0_n_n_n : DotDims S3x256 S256 S3 where
  lhsContracting := [1]
  rhsContracting := [0]
  lhsNonContracting := [0]
  rhsNonContracting := []
  lhsBatch := []
  rhsBatch := []
  wf := dot_S3x256_S256_S3_1_0_0_n_n_n_wf

noncomputable abbrev lit0 : Fin 3 → BitVec 32 := fun
  | 0 => 0x3EAB0E4A#32 | 1 => 0x3F73B78C#32 | 2 => 0x3F39BC5F#32
  | _ => 0#32

def fn_part1 {F : FTy → Type} [FloatOps F] (main_v3 : FVec F S3 .f32) (main_v12 : IVec S_ 1) (main_v16 : IVec S_ 1) : IVec S_ 1 :=
  let main_v17 : IVec S_ 1 := andi main_v12 main_v16
  let main_cst_5 : FVec F S_ .f32 := constant S_ .f32 0xFF800000#32
  let main_v18 : FVec F S_ .f32 := (fun x v => Host.reduce FloatOps.maximumf x v reducesTo_S3_S_d0 h_S_) main_v3 main_cst_5
  let main_cst_6 : FVec F S_ .f32 := constant S_ .f32 0x33D6BF95#32
  let main_v19 : FVec F S_ .f32 := subf main_v18 main_cst_6
  let main_v20 : FVec F S3 .f32 := broadcastInDim S3 ![] bcast_S_S3 main_v19
  let main_v21 : IVec S3 1 := cmpf .ogt main_v3 main_v20
  let main_v22 : IVec S3 32 := (extui 32 · natLt_1_32) main_v21
  let main_c_7 : IVec S_ 32 := constantI S_ 32 0#32
  let main_v23 : IVec S_ 32 := (fun x v => Host.reduce IntOp.addi x v reducesTo_S3_S_d0 h_S_) main_v22 main_c_7
  let main_c_8 : IVec S_ 32 := constantI S_ 32 1#32
  let main_v24 : IVec S_ 1 := cmpi .eq main_v23 main_c_8
  let main_v25 : IVec S_ 1 := andi main_v17 main_v24
  main_v25

def fn {F : FTy → Type} [FloatOps F] (main_arg0 : FVec F S16x16 .f32) (main_arg1 : FVec F S3x256 .f32) (main_arg2 : FVec F S3 .f32) : IVec S_ 1 :=
  let main_cst : FVec F S3 .f32 := fun i => FloatOps.ofBits .f32 (lit0 (S3.rowMajor i))
  let main_v0 : FVec F S256 .f32 := shapeCast S256 main_arg0 shapeCasts_S16x16_S256
  let main_v1 : FVec F S3 .f32 := (fun l r => Host.dotGeneral dot_S3x256_S256_S3_1_0_0_n_n_n none l r) main_arg1 main_v0
  let main_v2 : FVec F S3 .f32 := addf main_v1 main_arg2
  let main_v3 : FVec F S3 .f32 := addf main_v2 main_cst
  let main_v4 : FVec F S16x16 .f32 := Host.absf main_arg0
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c : IVec S_ 1 := constantI S_ 1 1#1
  let main_v7 : IVec S_ 1 := (fun x v => Host.reduce IntOp.andi x v reducesTo_S16x16_S_d0_1 h_S_) main_v6 main_c
  let main_v8 : FVec F S3x256 .f32 := Host.absf main_arg1
  let main_cst_1 : FVec F S_ .f32 := constant S_ .f32 0x7F800000#32
  let main_v9 : FVec F S3x256 .f32 := broadcastInDim S3x256 ![] bcast_S_S3x256 main_cst_1
  let main_v10 : IVec S3x256 1 := cmpf .olt main_v8 main_v9
  let main_c_2 : IVec S_ 1 := constantI S_ 1 1#1
  let main_v11 : IVec S_ 1 := (fun x v => Host.reduce IntOp.andi x v reducesTo_S3x256_S_d0_1 h_S_) main_v10 main_c_2
  let main_v12 : IVec S_ 1 := andi main_v7 main_v11
  let main_v13 : FVec F S3 .f32 := Host.absf main_arg2
  let main_cst_3 : FVec F S_ .f32 := constant S_ .f32 0x7F800000#32
  let main_v14 : FVec F S3 .f32 := broadcastInDim S3 ![] bcast_S_S3 main_cst_3
  let main_v15 : IVec S3 1 := cmpf .olt main_v13 main_v14
  let main_c_4 : IVec S_ 1 := constantI S_ 1 1#1
  let main_v16 : IVec S_ 1 := (fun x v => Host.reduce IntOp.andi x v reducesTo_S3_S_d0 h_S_) main_v15 main_c_4
  fn_part1 (F := F) main_v3 main_v12 main_v16
-- ==== Kernel.lean ====
abbrev S16x16 : Shape := ⟨2, ![16, 16]⟩
abbrev S3x256 : Shape := ⟨2, ![3, 256]⟩
abbrev S3 : Shape := ⟨1, ![3]⟩
abbrev S256 : Shape := ⟨1, ![256]⟩
abbrev S768 : Shape := ⟨1, ![768]⟩
abbrev S1 : Shape := ⟨1, ![1]⟩
abbrev S_ : Shape := ⟨0, ![]⟩

abbrev nBuf : Table → Nat
  | .hbm => 6
  | .local .scScalar .smem => 4
  | _ => 0

abbrev bufTy : (tb : Table) → Fin (nBuf tb) → BufTy
  | .hbm, ⟨0, _⟩ => ⟨S16x16, .f32⟩
  | .hbm, ⟨1, _⟩ => ⟨S3x256, .f32⟩
  | .hbm, ⟨2, _⟩ => ⟨S3, .f32⟩
  | .hbm, ⟨3, _⟩ => ⟨S256, .f32⟩
  | .hbm, ⟨4, _⟩ => ⟨S768, .f32⟩
  | .hbm, ⟨5, _⟩ => ⟨S1, .i32⟩
  | .local .scScalar .smem, ⟨0, _⟩ => ⟨S256, .f32⟩
  | .local .scScalar .smem, ⟨1, _⟩ => ⟨S768, .f32⟩
  | .local .scScalar .smem, ⟨2, _⟩ => ⟨S3, .f32⟩
  | .local .scScalar .smem, ⟨3, _⟩ => ⟨S1, .i32⟩
  | _, _ => ⟨S16x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scs : Ref sig .scScalar := ⟨.hbm, 3, rfl⟩
abbrev main_v1_scs : Ref sig .scScalar := ⟨.hbm, 4, rfl⟩
abbrev main_arg2_scs : Ref sig .scScalar := ⟨.hbm, 2, rfl⟩
abbrev main_v2_scs : Ref sig .scScalar := ⟨.hbm, 5, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc0_scratch3 : Ref sig .scScalar := ⟨.smem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_2 : BitVec 32 := 0#32
  let c64_i32 : BitVec 32 := 64#32
  let v9 : BitVec 32 := Scalar.addi c0_i32_2 c64_i32
  let c1_i32_3 : BitVec 32 := 1#32
  ⟨c0_i32_2, v9, c1_i32_3⟩
def k0_off1 (k0_t1 : Fin k0_t1_loop.trips) (c0_i32_9 : BitVec 32) : Fin 1 → Nat :=
  let c0_i32_2 : BitVec 32 := 0#32
  let c1_i32_3 : BitVec 32 := 1#32
  let arg13 : BitVec 32 := Scf.iv c0_i32_2 c1_i32_3 k0_t1
  let c4_i32 : BitVec 32 := 4#32
  let v18 : BitVec 32 := Scalar.muli arg13 c4_i32
  let v19 : BitVec 32 := Scalar.addi v18 c0_i32_9
  let v20 : Index := Scalar.indexCast v19
  ![v20.toNat]
def k0_off2 (k0_t1 : Fin k0_t1_loop.trips) (c0_i32_9 : BitVec 32) : Fin 1 → Nat :=
  let c0_i32_2 : BitVec 32 := 0#32
  let c1_i32_3 : BitVec 32 := 1#32
  let arg13 : BitVec 32 := Scf.iv c0_i32_2 c1_i32_3 k0_t1
  let c4_i32 : BitVec 32 := 4#32
  let v18 : BitVec 32 := Scalar.muli arg13 c4_i32
  let v19 : BitVec 32 := Scalar.addi v18 c0_i32_9
  let v22 : Index := Scalar.indexCast v19
  ![v22.toNat]
def k0_off3 (k0_t1 : Fin k0_t1_loop.trips) (c256_i32 : BitVec 32) (c0_i32_9 : BitVec 32) : Fin 1 → Nat :=
  let c0_i32_2 : BitVec 32 := 0#32
  let c1_i32_3 : BitVec 32 := 1#32
  let arg13 : BitVec 32 := Scf.iv c0_i32_2 c1_i32_3 k0_t1
  let c4_i32 : BitVec 32 := 4#32
  let v18 : BitVec 32 := Scalar.muli arg13 c4_i32
  let v19 : BitVec 32 := Scalar.addi v18 c0_i32_9
  let v26 : BitVec 32 := Scalar.addi c256_i32 v19
  let v27 : Index := Scalar.indexCast v26
  ![v27.toNat]
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S16x16 : Shape := ⟨2, ![16, 16]⟩
abbrev S3x256 : Shape := ⟨2, ![3, 256]⟩
abbrev S3 : Shape := ⟨1, ![3]⟩
abbrev S256 : Shape := ⟨1, ![256]⟩
abbrev S_ : Shape := ⟨0, ![]⟩
abbrev S1 : Shape := ⟨1, ![1]⟩
abbrev S2 : Shape := ⟨1, ![2]⟩

abbrev nBuf : Space → Nat
  | .hbm => 299
  | .vmem => 0
  | .smem => 0
  | _ => 0

abbrev hbmTy0_0 (i : Nat) : BufTy := match i % 128 with
  | 0 => ⟨S16x16, .f32⟩
  | 1 => ⟨S3x256, .f32⟩
  | 2 => ⟨S3, .f32⟩
  | 3 => ⟨S256, .f32⟩
  | 4 => ⟨S3, .f32⟩
  | 5 => ⟨S3, .f32⟩
  | 6 => ⟨S_, .f32⟩
  | 7 => ⟨S_, .f32⟩
  | 8 => ⟨S_, .f32⟩
  | 9 => ⟨S_, .f32⟩
  | 10 => ⟨S1, .f32⟩
  | 11 => ⟨S3, .f32⟩
  | 12 => ⟨S3, .f32⟩
  | 13 => ⟨S3, .f32⟩
  | 14 => ⟨S_, .f32⟩
  | 15 => ⟨S_, .f32⟩
  | 16 => ⟨S1, .f32⟩
  | 17 => ⟨S3, .f32⟩
  | 18 => ⟨S3, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S3, .f32⟩
  | 30 => ⟨S_, .f32⟩
  | 31 => ⟨S_, .f32⟩
  | 32 => ⟨S_, .f32⟩
  | 33 => ⟨S1, .f32⟩
  | 34 => ⟨S1, .f32⟩
  | 35 => ⟨S1, .i32⟩
  | 36 => ⟨S_, .i32⟩
  | 37 => ⟨S1, .i32⟩
  | 38 => ⟨S_, .i32⟩
  | 39 => ⟨S3, .i64⟩
  | 40 => ⟨S_, .i64⟩
  | 41 => ⟨S3, .i64⟩
  | 42 => ⟨S3, .i64⟩
  | 43 => ⟨S_, .i64⟩
  | 44 => ⟨S3, .i64⟩
  | 45 => ⟨S3, .i64⟩
  | 46 => ⟨S3, .i32⟩
  | 47 => ⟨S3, .i32⟩
  | 48 => ⟨S_, .i32⟩
  | 49 => ⟨S_, .i32⟩
  | 50 => ⟨S_, .i32⟩
  | 51 => ⟨S3, .i32⟩
  | 52 => ⟨S3, .i32⟩
  | 53 => ⟨S3, .i32⟩
  | 54 => ⟨S3, .i32⟩
  | 55 => ⟨S3, .i32⟩
  | 56 => ⟨S_, .i32⟩
  | 57 => ⟨S3, .i32⟩
  | 58 => ⟨S3, .i32⟩
  | 59 => ⟨S_, .i32⟩
  | 60 => ⟨S3, .i32⟩
  | 61 => ⟨S3, .i32⟩
  | 62 => ⟨S3, .i32⟩
  | 63 => ⟨S3, .i32⟩
  | 64 => ⟨S3, .i32⟩
  | 65 => ⟨S_, .i32⟩
  | 66 => ⟨S3, .i32⟩
  | 67 => ⟨S3, .i32⟩
  | 68 => ⟨S_, .i32⟩
  | 69 => ⟨S3, .i32⟩
  | 70 => ⟨S3, .i32⟩
  | 71 => ⟨S3, .i32⟩
  | 72 => ⟨S3, .i32⟩
  | 73 => ⟨S3, .i32⟩
  | 74 => ⟨S_, .i32⟩
  | 75 => ⟨S3, .i32⟩
  | 76 => ⟨S3, .i32⟩
  | 77 => ⟨S_, .i32⟩
  | 78 => ⟨S3, .i32⟩
  | 79 => ⟨S3, .i32⟩
  | 80 => ⟨S3, .i32⟩
  | 81 => ⟨S3, .i32⟩
  | 82 => ⟨S3, .i32⟩
  | 83 => ⟨S_, .i32⟩
  | 84 => ⟨S3, .i32⟩
  | 85 => ⟨S3, .i32⟩
  | 86 => ⟨S_, .i32⟩
  | 87 => ⟨S3, .i32⟩
  | 88 => ⟨S3, .i32⟩
  | 89 => ⟨S3, .i32⟩
  | 90 => ⟨S3, .i32⟩
  | 91 => ⟨S3, .i32⟩
  | 92 => ⟨S3, .i32⟩
  | 93 => ⟨S3, .i32⟩
  | 94 => ⟨S3, .i32⟩
  | 95 => ⟨S_, .i32⟩
  | 96 => ⟨S3, .i32⟩
  | 97 => ⟨S3, .i32⟩
  | 98 => ⟨S3, .i32⟩
  | 99 => ⟨S_, .i32⟩
  | 100 => ⟨S3, .i32⟩
  | 101 => ⟨S3, .i32⟩
  | 102 => ⟨S_, .i32⟩
  | 103 => ⟨S3, .i32⟩
  | 104 => ⟨S3, .i32⟩
  | 105 => ⟨S3, .i32⟩
  | 106 => ⟨S3, .i32⟩
  | 107 => ⟨S3, .i32⟩
  | 108 => ⟨S_, .i32⟩
  | 109 => ⟨S3, .i32⟩
  | 110 => ⟨S3, .i32⟩
  | 111 => ⟨S_, .i32⟩
  | 112 => ⟨S3, .i32⟩
  | 113 => ⟨S3, .i32⟩
  | 114 => ⟨S3, .i32⟩
  | 115 => ⟨S3, .i32⟩
  | 116 => ⟨S3, .i32⟩
  | 117 => ⟨S_, .i32⟩
  | 118 => ⟨S3, .i32⟩
  | 119 => ⟨S3, .i32⟩
  | 120 => ⟨S_, .i32⟩
  | 121 => ⟨S3, .i32⟩
  | 122 => ⟨S3, .i32⟩
  | 123 => ⟨S3, .i32⟩
  | 124 => ⟨S3, .i32⟩
  | 125 => ⟨S3, .i32⟩
  | 126 => ⟨S_, .i32⟩
  | 127 => ⟨S3, .i32⟩
  | _ => ⟨S16x16, .f32⟩

abbrev hbmTy0_1 (i : Nat) : BufTy := match i % 128 with
  | 0 => ⟨S3, .i32⟩
  | 1 => ⟨S_, .i32⟩
  | 2 => ⟨S3, .i32⟩
  | 3 => ⟨S3, .i32⟩
  | 4 => ⟨S3, .i32⟩
  | 5 => ⟨S3, .i32⟩
  | 6 => ⟨S3, .i32⟩
  | 7 => ⟨S3, .i32⟩
  | 8 => ⟨S3, .i32⟩
  | 9 => ⟨S3, .i32⟩
  | 10 => ⟨S_, .i32⟩
  | 11 => ⟨S3, .i32⟩
  | 12 => ⟨S3, .i32⟩
  | 13 => ⟨S3, .i32⟩
  | 14 => ⟨S_, .i32⟩
  | 15 => ⟨S3, .i32⟩
  | 16 => ⟨S3, .i32⟩
  | 17 => ⟨S_, .i32⟩
  | 18 => ⟨S3, .i32⟩
  | 19 => ⟨S3, .i32⟩
  | 20 => ⟨S3, .i32⟩
  | 21 => ⟨S3, .i32⟩
  | 22 => ⟨S3, .i32⟩
  | 23 => ⟨S_, .i32⟩
  | 24 => ⟨S3, .i32⟩
  | 25 => ⟨S3, .i32⟩
  | 26 => ⟨S_, .i32⟩
  | 27 => ⟨S3, .i32⟩
  | 28 => ⟨S3, .i32⟩
  | 29 => ⟨S3, .i32⟩
  | 30 => ⟨S3, .i32⟩
  | 31 => ⟨S3, .i32⟩
  | 32 => ⟨S_, .i32⟩
  | 33 => ⟨S3, .i32⟩
  | 34 => ⟨S3, .i32⟩
  | 35 => ⟨S_, .i32⟩
  | 36 => ⟨S3, .i32⟩
  | 37 => ⟨S3, .i32⟩
  | 38 => ⟨S3, .i32⟩
  | 39 => ⟨S3, .i32⟩
  | 40 => ⟨S3, .i32⟩
  | 41 => ⟨S_, .i32⟩
  | 42 => ⟨S3, .i32⟩
  | 43 => ⟨S3, .i32⟩
  | 44 => ⟨S_, .i32⟩
  | 45 => ⟨S3, .i32⟩
  | 46 => ⟨S3, .i32⟩
  | 47 => ⟨S3, .i32⟩
  | 48 => ⟨S3, .i32⟩
  | 49 => ⟨S3, .i32⟩
  | 50 => ⟨S3, .i32⟩
  | 51 => ⟨S3, .i32⟩
  | 52 => ⟨S3, .i32⟩
  | 53 => ⟨S_, .i32⟩
  | 54 => ⟨S3, .i32⟩
  | 55 => ⟨S3, .i32⟩
  | 56 => ⟨S3, .i32⟩
  | 57 => ⟨S_, .i32⟩
  | 58 => ⟨S3, .i32⟩
  | 59 => ⟨S3, .i32⟩
  | 60 => ⟨S_, .i32⟩
  | 61 => ⟨S3, .i32⟩
  | 62 => ⟨S3, .i32⟩
  | 63 => ⟨S3, .i32⟩
  | 64 => ⟨S3, .i32⟩
  | 65 => ⟨S3, .i32⟩
  | 66 => ⟨S_, .i32⟩
  | 67 => ⟨S3, .i32⟩
  | 68 => ⟨S3, .i32⟩
  | 69 => ⟨S_, .i32⟩
  | 70 => ⟨S3, .i32⟩
  | 71 => ⟨S3, .i32⟩
  | 72 => ⟨S3, .i32⟩
  | 73 => ⟨S3, .i32⟩
  | 74 => ⟨S3, .i32⟩
  | 75 => ⟨S_, .i32⟩
  | 76 => ⟨S3, .i32⟩
  | 77 => ⟨S3, .i32⟩
  | 78 => ⟨S_, .i32⟩
  | 79 => ⟨S3, .i32⟩
  | 80 => ⟨S3, .i32⟩
  | 81 => ⟨S3, .i32⟩
  | 82 => ⟨S3, .i32⟩
  | 83 => ⟨S3, .i32⟩
  | 84 => ⟨S_, .i32⟩
  | 85 => ⟨S3, .i32⟩
  | 86 => ⟨S3, .i32⟩
  | 87 => ⟨S_, .i32⟩
  | 88 => ⟨S3, .i32⟩
  | 89 => ⟨S3, .i32⟩
  | 90 => ⟨S3, .i32⟩
  | 91 => ⟨S3, .i32⟩
  | 92 => ⟨S3, .i32⟩
  | 93 => ⟨S3, .i32⟩
  | 94 => ⟨S3, .i32⟩
  | 95 => ⟨S3, .i32⟩
  | 96 => ⟨S_, .i32⟩
  | 97 => ⟨S3, .i32⟩
  | 98 => ⟨S3, .i32⟩
  | 99 => ⟨S3, .i32⟩
  | 100 => ⟨S_, .i32⟩
  | 101 => ⟨S3, .i32⟩
  | 102 => ⟨S3, .i32⟩
  | 103 => ⟨S_, .i32⟩
  | 104 => ⟨S3, .i32⟩
  | 105 => ⟨S3, .i32⟩
  | 106 => ⟨S3, .i32⟩
  | 107 => ⟨S3, .i32⟩
  | 108 => ⟨S3, .i32⟩
  | 109 => ⟨S_, .i32⟩
  | 110 => ⟨S3, .i32⟩
  | 111 => ⟨S3, .i32⟩
  | 112 => ⟨S_, .i32⟩
  | 113 => ⟨S3, .i32⟩
  | 114 => ⟨S3, .i32⟩
  | 115 => ⟨S3, .i32⟩
  | 116 => ⟨S3, .i32⟩
  | 117 => ⟨S3, .i32⟩
  | 118 => ⟨S_, .i32⟩
  | 119 => ⟨S3, .i32⟩
  | 120 => ⟨S3, .i32⟩
  | 121 => ⟨S_, .i32⟩
  | 122 => ⟨S3, .i32⟩
  | 123 => ⟨S3, .i32⟩
  | 124 => ⟨S3, .i32⟩
  | 125 => ⟨S3, .i32⟩
  | 126 => ⟨S3, .i32⟩
  | 127 => ⟨S_, .i32⟩
  | _ => ⟨S16x16, .f32⟩

abbrev hbmTy0_2 (i : Nat) : BufTy := match i % 128 with
  | 0 => ⟨S3, .i32⟩
  | 1 => ⟨S3, .i32⟩
  | 2 => ⟨S_, .i32⟩
  | 3 => ⟨S3, .i32⟩
  | 4 => ⟨S3, .i32⟩
  | 5 => ⟨S3, .i32⟩
  | 6 => ⟨S3, .i32⟩
  | 7 => ⟨S3, .i32⟩
  | 8 => ⟨S3, .i32⟩
  | 9 => ⟨S3, .i32⟩
  | 10 => ⟨S3, .i32⟩
  | 11 => ⟨S_, .i32⟩
  | 12 => ⟨S3, .i32⟩
  | 13 => ⟨S3, .i32⟩
  | 14 => ⟨S3, .i32⟩
  | 15 => ⟨S_, .i32⟩
  | 16 => ⟨S3, .i32⟩
  | 17 => ⟨S3, .i32⟩
  | 18 => ⟨S_, .i32⟩
  | 19 => ⟨S3, .i32⟩
  | 20 => ⟨S3, .i32⟩
  | 21 => ⟨S3, .f32⟩
  | 22 => ⟨S_, .f32⟩
  | 23 => ⟨S3, .f32⟩
  | 24 => ⟨S3, .f32⟩
  | 25 => ⟨S1, .f32⟩
  | 26 => ⟨S3, .f32⟩
  | 27 => ⟨S3, .f32⟩
  | 28 => ⟨S3, .f32⟩
  | 29 => ⟨S3, .f32⟩
  | 30 => ⟨S3, .f32⟩
  | 31 => ⟨S3, .f32⟩
  | 32 => ⟨S3, .f32⟩
  | 33 => ⟨S3, .f32⟩
  | 34 => ⟨S3, .f32⟩
  | 35 => ⟨S3, .f32⟩
  | 36 => ⟨S3, .f32⟩
  | 37 => ⟨S3, .i32⟩
  | 38 => ⟨S_, .f32⟩
  | 39 => ⟨S_, .i32⟩
  | 40 => ⟨S_, .f32⟩
  | 41 => ⟨S_, .i32⟩
  | 42 => ⟨S1, .i32⟩
  | _ => ⟨S16x16, .f32⟩

abbrev hbmTy (i : Nat) : BufTy := match i / 128 with
  | 0 => hbmTy0_0 i
  | 1 => hbmTy0_1 i
  | 2 => hbmTy0_2 i
  | _ => ⟨S16x16, .f32⟩

abbrev bufTy : (tb : Table) → Fin (tcTables nBuf tb) → BufTy
  | .hbm, ⟨i, _⟩ => hbmTy i
  | _, _ => ⟨S16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_cst_0 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_c : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_c_0 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_call0_v0 : Ref sig .tc := ⟨.hbm, 48, rfl⟩
abbrev main_call0_call0_call0_c : Ref sig .tc := ⟨.hbm, 49, rfl⟩
abbrev main_call0_call0_call0_v1 : Ref sig .tc := ⟨.hbm, 50, rfl⟩
abbrev main_call0_call0_call0_v2 : Ref sig .tc := ⟨.hbm, 51, rfl⟩
abbrev main_call0_call0_call0_v3 : Ref sig .tc := ⟨.hbm, 52, rfl⟩
abbrev main_call0_call0_call0_v4 : Ref sig .tc := ⟨.hbm, 53, rfl⟩
abbrev main_call0_call0_call0_v5 : Ref sig .tc := ⟨.hbm, 54, rfl⟩
abbrev main_call0_call0_call0_v6 : Ref sig .tc := ⟨.hbm, 55, rfl⟩
abbrev main_call0_call0_call0_c_0 : Ref sig .tc := ⟨.hbm, 56, rfl⟩
abbrev main_call0_call0_call0_v7 : Ref sig .tc := ⟨.hbm, 57, rfl⟩
abbrev main_call0_call0_call0_v8 : Ref sig .tc := ⟨.hbm, 58, rfl⟩
abbrev main_call0_call0_call0_c_1 : Ref sig .tc := ⟨.hbm, 59, rfl⟩
abbrev main_call0_call0_call0_v9 : Ref sig .tc := ⟨.hbm, 60, rfl⟩
abbrev main_call0_call0_call0_v10 : Ref sig .tc := ⟨.hbm, 61, rfl⟩
abbrev main_call0_call0_call0_v11 : Ref sig .tc := ⟨.hbm, 62, rfl⟩
abbrev main_call0_call0_call0_v12 : Ref sig .tc := ⟨.hbm, 63, rfl⟩
abbrev main_call0_call0_call0_v13 : Ref sig .tc := ⟨.hbm, 64, rfl⟩
abbrev main_call0_call0_call0_c_2 : Ref sig .tc := ⟨.hbm, 65, rfl⟩
abbrev main_call0_call0_call0_v14 : Ref sig .tc := ⟨.hbm, 66, rfl⟩
abbrev main_call0_call0_call0_v15 : Ref sig .tc := ⟨.hbm, 67, rfl⟩
abbrev main_call0_call0_call0_c_3 : Ref sig .tc := ⟨.hbm, 68, rfl⟩
abbrev main_call0_call0_call0_v16 : Ref sig .tc := ⟨.hbm, 69, rfl⟩
abbrev main_call0_call0_call0_v17 : Ref sig .tc := ⟨.hbm, 70, rfl⟩
abbrev main_call0_call0_call0_v18 : Ref sig .tc := ⟨.hbm, 71, rfl⟩
abbrev main_call0_call0_call0_v19 : Ref sig .tc := ⟨.hbm, 72, rfl⟩
abbrev main_call0_call0_call0_v20 : Ref sig .tc := ⟨.hbm, 73, rfl⟩
abbrev main_call0_call0_call0_c_4 : Ref sig .tc := ⟨.hbm, 74, rfl⟩
abbrev main_call0_call0_call0_v21 : Ref sig .tc := ⟨.hbm, 75, rfl⟩
abbrev main_call0_call0_call0_v22 : Ref sig .tc := ⟨.hbm, 76, rfl⟩
abbrev main_call0_call0_call0_c_5 : Ref sig .tc := ⟨.hbm, 77, rfl⟩
abbrev main_call0_call0_call0_v23 : Ref sig .tc := ⟨.hbm, 78, rfl⟩
abbrev main_call0_call0_call0_v24 : Ref sig .tc := ⟨.hbm, 79, rfl⟩
abbrev main_call0_call0_call0_v25 : Ref sig .tc := ⟨.hbm, 80, rfl⟩
abbrev main_call0_call0_call0_v26 : Ref sig .tc := ⟨.hbm, 81, rfl⟩
abbrev main_call0_call0_call0_v27 : Ref sig .tc := ⟨.hbm, 82, rfl⟩
abbrev main_call0_call0_call0_c_6 : Ref sig .tc := ⟨.hbm, 83, rfl⟩
abbrev main_call0_call0_call0_v28 : Ref sig .tc := ⟨.hbm, 84, rfl⟩
abbrev main_call0_call0_call0_v29 : Ref sig .tc := ⟨.hbm, 85, rfl⟩
abbrev main_call0_call0_call0_c_7 : Ref sig .tc := ⟨.hbm, 86, rfl⟩
abbrev main_call0_call0_call0_v30 : Ref sig .tc := ⟨.hbm, 87, rfl⟩
abbrev main_call0_call0_call0_v31 : Ref sig .tc := ⟨.hbm, 88, rfl⟩
abbrev main_call0_call0_call0_v32 : Ref sig .tc := ⟨.hbm, 89, rfl⟩
abbrev main_call0_call0_call0_v33 : Ref sig .tc := ⟨.hbm, 90, rfl⟩
abbrev main_call0_call0_call0_v34 : Ref sig .tc := ⟨.hbm, 91, rfl⟩
abbrev main_call0_call0_call0_v35 : Ref sig .tc := ⟨.hbm, 92, rfl⟩
abbrev main_call0_call0_call0_v36 : Ref sig .tc := ⟨.hbm, 93, rfl⟩
abbrev main_call0_call0_call0_v37 : Ref sig .tc := ⟨.hbm, 94, rfl⟩
abbrev main_call0_call0_call0_c_8 : Ref sig .tc := ⟨.hbm, 95, rfl⟩
abbrev main_call0_call0_call0_v38 : Ref sig .tc := ⟨.hbm, 96, rfl⟩
abbrev main_call0_call0_call0_v39 : Ref sig .tc := ⟨.hbm, 97, rfl⟩
abbrev main_call0_call0_call0_v40 : Ref sig .tc := ⟨.hbm, 98, rfl⟩
abbrev main_call0_call0_call0_c_9 : Ref sig .tc := ⟨.hbm, 99, rfl⟩
abbrev main_call0_call0_call0_v41 : Ref sig .tc := ⟨.hbm, 100, rfl⟩
abbrev main_call0_call0_call0_v42 : Ref sig .tc := ⟨.hbm, 101, rfl⟩
abbrev main_call0_call0_call0_c_10 : Ref sig .tc := ⟨.hbm, 102, rfl⟩
abbrev main_call0_call0_call0_v43 : Ref sig .tc := ⟨.hbm, 103, rfl⟩
abbrev main_call0_call0_call0_v44 : Ref sig .tc := ⟨.hbm, 104, rfl⟩
abbrev main_call0_call0_call0_v45 : Ref sig .tc := ⟨.hbm, 105, rfl⟩
abbrev main_call0_call0_call0_v46 : Ref sig .tc := ⟨.hbm, 106, rfl⟩
abbrev main_call0_call0_call0_v47 : Ref sig .tc := ⟨.hbm, 107, rfl⟩
abbrev main_call0_call0_call0_c_11 : Ref sig .tc := ⟨.hbm, 108, rfl⟩
abbrev main_call0_call0_call0_v48 : Ref sig .tc := ⟨.hbm, 109, rfl⟩
abbrev main_call0_call0_call0_v49 : Ref sig .tc := ⟨.hbm, 110, rfl⟩
abbrev main_call0_call0_call0_c_12 : Ref sig .tc := ⟨.hbm, 111, rfl⟩
abbrev main_call0_call0_call0_v50 : Ref sig .tc := ⟨.hbm, 112, rfl⟩
abbrev main_call0_call0_call0_v51 : Ref sig .tc := ⟨.hbm, 113, rfl⟩
abbrev main_call0_call0_call0_v52 : Ref sig .tc := ⟨.hbm, 114, rfl⟩
abbrev main_call0_call0_call0_v53 : Ref sig .tc := ⟨.hbm, 115, rfl⟩
abbrev main_call0_call0_call0_v54 : Ref sig .tc := ⟨.hbm, 116, rfl⟩
abbrev main_call0_call0_call0_c_13 : Ref sig .tc := ⟨.hbm, 117, rfl⟩
abbrev main_call0_call0_call0_v55 : Ref sig .tc := ⟨.hbm, 118, rfl⟩
abbrev main_call0_call0_call0_v56 : Ref sig .tc := ⟨.hbm, 119, rfl⟩
abbrev main_call0_call0_call0_c_14 : Ref sig .tc := ⟨.hbm, 120, rfl⟩
abbrev main_call0_call0_call0_v57 : Ref sig .tc := ⟨.hbm, 121, rfl⟩
abbrev main_call0_call0_call0_v58 : Ref sig .tc := ⟨.hbm, 122, rfl⟩
abbrev main_call0_call0_call0_v59 : Ref sig .tc := ⟨.hbm, 123, rfl⟩
abbrev main_call0_call0_call0_v60 : Ref sig .tc := ⟨.hbm, 124, rfl⟩
abbrev main_call0_call0_call0_v61 : Ref sig .tc := ⟨.hbm, 125, rfl⟩
abbrev main_call0_call0_call0_c_15 : Ref sig .tc := ⟨.hbm, 126, rfl⟩
abbrev main_call0_call0_call0_v62 : Ref sig .tc := ⟨.hbm, 127, rfl⟩
abbrev main_call0_call0_call0_v63 : Ref sig .tc := ⟨.hbm, 128, rfl⟩
abbrev main_call0_call0_call0_c_16 : Ref sig .tc := ⟨.hbm, 129, rfl⟩
abbrev main_call0_call0_call0_v64 : Ref sig .tc := ⟨.hbm, 130, rfl⟩
abbrev main_call0_call0_call0_v65 : Ref sig .tc := ⟨.hbm, 131, rfl⟩
abbrev main_call0_call0_call0_v66 : Ref sig .tc := ⟨.hbm, 132, rfl⟩
abbrev main_call0_call0_call0_v67 : Ref sig .tc := ⟨.hbm, 133, rfl⟩
abbrev main_call0_call0_call0_v68 : Ref sig .tc := ⟨.hbm, 134, rfl⟩
abbrev main_call0_call0_call0_v69 : Ref sig .tc := ⟨.hbm, 135, rfl⟩
abbrev main_call0_call0_call0_v70 : Ref sig .tc := ⟨.hbm, 136, rfl⟩
abbrev main_call0_call0_call0_v71 : Ref sig .tc := ⟨.hbm, 137, rfl⟩
abbrev main_call0_call0_call0_c_17 : Ref sig .tc := ⟨.hbm, 138, rfl⟩
abbrev main_call0_call0_call0_v72 : Ref sig .tc := ⟨.hbm, 139, rfl⟩
abbrev main_call0_call0_call0_v73 : Ref sig .tc := ⟨.hbm, 140, rfl⟩
abbrev main_call0_call0_call0_v74 : Ref sig .tc := ⟨.hbm, 141, rfl⟩
abbrev main_call0_call0_call0_c_18 : Ref sig .tc := ⟨.hbm, 142, rfl⟩
abbrev main_call0_call0_call0_v75 : Ref sig .tc := ⟨.hbm, 143, rfl⟩
abbrev main_call0_call0_call0_v76 : Ref sig .tc := ⟨.hbm, 144, rfl⟩
abbrev main_call0_call0_call0_c_19 : Ref sig .tc := ⟨.hbm, 145, rfl⟩
abbrev main_call0_call0_call0_v77 : Ref sig .tc := ⟨.hbm, 146, rfl⟩
abbrev main_call0_call0_call0_v78 : Ref sig .tc := ⟨.hbm, 147, rfl⟩
abbrev main_call0_call0_call0_v79 : Ref sig .tc := ⟨.hbm, 148, rfl⟩
abbrev main_call0_call0_call0_v80 : Ref sig .tc := ⟨.hbm, 149, rfl⟩
abbrev main_call0_call0_call0_v81 : Ref sig .tc := ⟨.hbm, 150, rfl⟩
abbrev main_call0_call0_call0_c_20 : Ref sig .tc := ⟨.hbm, 151, rfl⟩
abbrev main_call0_call0_call0_v82 : Ref sig .tc := ⟨.hbm, 152, rfl⟩
abbrev main_call0_call0_call0_v83 : Ref sig .tc := ⟨.hbm, 153, rfl⟩
abbrev main_call0_call0_call0_c_21 : Ref sig .tc := ⟨.hbm, 154, rfl⟩
abbrev main_call0_call0_call0_v84 : Ref sig .tc := ⟨.hbm, 155, rfl⟩
abbrev main_call0_call0_call0_v85 : Ref sig .tc := ⟨.hbm, 156, rfl⟩
abbrev main_call0_call0_call0_v86 : Ref sig .tc := ⟨.hbm, 157, rfl⟩
abbrev main_call0_call0_call0_v87 : Ref sig .tc := ⟨.hbm, 158, rfl⟩
abbrev main_call0_call0_call0_v88 : Ref sig .tc := ⟨.hbm, 159, rfl⟩
abbrev main_call0_call0_call0_c_22 : Ref sig .tc := ⟨.hbm, 160, rfl⟩
abbrev main_call0_call0_call0_v89 : Ref sig .tc := ⟨.hbm, 161, rfl⟩
abbrev main_call0_call0_call0_v90 : Ref sig .tc := ⟨.hbm, 162, rfl⟩
abbrev main_call0_call0_call0_c_23 : Ref sig .tc := ⟨.hbm, 163, rfl⟩
abbrev main_call0_call0_call0_v91 : Ref sig .tc := ⟨.hbm, 164, rfl⟩
abbrev main_call0_call0_call0_v92 : Ref sig .tc := ⟨.hbm, 165, rfl⟩
abbrev main_call0_call0_call0_v93 : Ref sig .tc := ⟨.hbm, 166, rfl⟩
abbrev main_call0_call0_call0_v94 : Ref sig .tc := ⟨.hbm, 167, rfl⟩
abbrev main_call0_call0_call0_v95 : Ref sig .tc := ⟨.hbm, 168, rfl⟩
abbrev main_call0_call0_call0_c_24 : Ref sig .tc := ⟨.hbm, 169, rfl⟩
abbrev main_call0_call0_call0_v96 : Ref sig .tc := ⟨.hbm, 170, rfl⟩
abbrev main_call0_call0_call0_v97 : Ref sig .tc := ⟨.hbm, 171, rfl⟩
abbrev main_call0_call0_call0_c_25 : Ref sig .tc := ⟨.hbm, 172, rfl⟩
abbrev main_call0_call0_call0_v98 : Ref sig .tc := ⟨.hbm, 173, rfl⟩
abbrev main_call0_call0_call0_v99 : Ref sig .tc := ⟨.hbm, 174, rfl⟩
abbrev main_call0_call0_call0_v100 : Ref sig .tc := ⟨.hbm, 175, rfl⟩
abbrev main_call0_call0_call0_v101 : Ref sig .tc := ⟨.hbm, 176, rfl⟩
abbrev main_call0_call0_call0_v102 : Ref sig .tc := ⟨.hbm, 177, rfl⟩
abbrev main_call0_call0_call0_v103 : Ref sig .tc := ⟨.hbm, 178, rfl⟩
abbrev main_call0_call0_call0_v104 : Ref sig .tc := ⟨.hbm, 179, rfl⟩
abbrev main_call0_call0_call0_v105 : Ref sig .tc := ⟨.hbm, 180, rfl⟩
abbrev main_call0_call0_call0_c_26 : Ref sig .tc := ⟨.hbm, 181, rfl⟩
abbrev main_call0_call0_call0_v106 : Ref sig .tc := ⟨.hbm, 182, rfl⟩
abbrev main_call0_call0_call0_v107 : Ref sig .tc := ⟨.hbm, 183, rfl⟩
abbrev main_call0_call0_call0_v108 : Ref sig .tc := ⟨.hbm, 184, rfl⟩
abbrev main_call0_call0_call0_c_27 : Ref sig .tc := ⟨.hbm, 185, rfl⟩
abbrev main_call0_call0_call0_v109 : Ref sig .tc := ⟨.hbm, 186, rfl⟩
abbrev main_call0_call0_call0_v110 : Ref sig .tc := ⟨.hbm, 187, rfl⟩
abbrev main_call0_call0_call0_c_28 : Ref sig .tc := ⟨.hbm, 188, rfl⟩
abbrev main_call0_call0_call0_v111 : Ref sig .tc := ⟨.hbm, 189, rfl⟩
abbrev main_call0_call0_call0_v112 : Ref sig .tc := ⟨.hbm, 190, rfl⟩
abbrev main_call0_call0_call0_v113 : Ref sig .tc := ⟨.hbm, 191, rfl⟩
abbrev main_call0_call0_call0_v114 : Ref sig .tc := ⟨.hbm, 192, rfl⟩
abbrev main_call0_call0_call0_v115 : Ref sig .tc := ⟨.hbm, 193, rfl⟩
abbrev main_call0_call0_call0_c_29 : Ref sig .tc := ⟨.hbm, 194, rfl⟩
abbrev main_call0_call0_call0_v116 : Ref sig .tc := ⟨.hbm, 195, rfl⟩
abbrev main_call0_call0_call0_v117 : Ref sig .tc := ⟨.hbm, 196, rfl⟩
abbrev main_call0_call0_call0_c_30 : Ref sig .tc := ⟨.hbm, 197, rfl⟩
abbrev main_call0_call0_call0_v118 : Ref sig .tc := ⟨.hbm, 198, rfl⟩
abbrev main_call0_call0_call0_v119 : Ref sig .tc := ⟨.hbm, 199, rfl⟩
abbrev main_call0_call0_call0_v120 : Ref sig .tc := ⟨.hbm, 200, rfl⟩
abbrev main_call0_call0_call0_v121 : Ref sig .tc := ⟨.hbm, 201, rfl⟩
abbrev main_call0_call0_call0_v122 : Ref sig .tc := ⟨.hbm, 202, rfl⟩
abbrev main_call0_call0_call0_c_31 : Ref sig .tc := ⟨.hbm, 203, rfl⟩
abbrev main_call0_call0_call0_v123 : Ref sig .tc := ⟨.hbm, 204, rfl⟩
abbrev main_call0_call0_call0_v124 : Ref sig .tc := ⟨.hbm, 205, rfl⟩
abbrev main_call0_call0_call0_c_32 : Ref sig .tc := ⟨.hbm, 206, rfl⟩
abbrev main_call0_call0_call0_v125 : Ref sig .tc := ⟨.hbm, 207, rfl⟩
abbrev main_call0_call0_call0_v126 : Ref sig .tc := ⟨.hbm, 208, rfl⟩
abbrev main_call0_call0_call0_v127 : Ref sig .tc := ⟨.hbm, 209, rfl⟩
abbrev main_call0_call0_call0_v128 : Ref sig .tc := ⟨.hbm, 210, rfl⟩
abbrev main_call0_call0_call0_v129 : Ref sig .tc := ⟨.hbm, 211, rfl⟩
abbrev main_call0_call0_call0_c_33 : Ref sig .tc := ⟨.hbm, 212, rfl⟩
abbrev main_call0_call0_call0_v130 : Ref sig .tc := ⟨.hbm, 213, rfl⟩
abbrev main_call0_call0_call0_v131 : Ref sig .tc := ⟨.hbm, 214, rfl⟩
abbrev main_call0_call0_call0_c_34 : Ref sig .tc := ⟨.hbm, 215, rfl⟩
abbrev main_call0_call0_call0_v132 : Ref sig .tc := ⟨.hbm, 216, rfl⟩
abbrev main_call0_call0_call0_v133 : Ref sig .tc := ⟨.hbm, 217, rfl⟩
abbrev main_call0_call0_call0_v134 : Ref sig .tc := ⟨.hbm, 218, rfl⟩
abbrev main_call0_call0_call0_v135 : Ref sig .tc := ⟨.hbm, 219, rfl⟩
abbrev main_call0_call0_call0_v136 : Ref sig .tc := ⟨.hbm, 220, rfl⟩
abbrev main_call0_call0_call0_v137 : Ref sig .tc := ⟨.hbm, 221, rfl⟩
abbrev main_call0_call0_call0_v138 : Ref sig .tc := ⟨.hbm, 222, rfl⟩
abbrev main_call0_call0_call0_v139 : Ref sig .tc := ⟨.hbm, 223, rfl⟩
abbrev main_call0_call0_call0_c_35 : Ref sig .tc := ⟨.hbm, 224, rfl⟩
abbrev main_call0_call0_call0_v140 : Ref sig .tc := ⟨.hbm, 225, rfl⟩
abbrev main_call0_call0_call0_v141 : Ref sig .tc := ⟨.hbm, 226, rfl⟩
abbrev main_call0_call0_call0_v142 : Ref sig .tc := ⟨.hbm, 227, rfl⟩
abbrev main_call0_call0_call0_c_36 : Ref sig .tc := ⟨.hbm, 228, rfl⟩
abbrev main_call0_call0_call0_v143 : Ref sig .tc := ⟨.hbm, 229, rfl⟩
abbrev main_call0_call0_call0_v144 : Ref sig .tc := ⟨.hbm, 230, rfl⟩
abbrev main_call0_call0_call0_c_37 : Ref sig .tc := ⟨.hbm, 231, rfl⟩
abbrev main_call0_call0_call0_v145 : Ref sig .tc := ⟨.hbm, 232, rfl⟩
abbrev main_call0_call0_call0_v146 : Ref sig .tc := ⟨.hbm, 233, rfl⟩
abbrev main_call0_call0_call0_v147 : Ref sig .tc := ⟨.hbm, 234, rfl⟩
abbrev main_call0_call0_call0_v148 : Ref sig .tc := ⟨.hbm, 235, rfl⟩
abbrev main_call0_call0_call0_v149 : Ref sig .tc := ⟨.hbm, 236, rfl⟩
abbrev main_call0_call0_call0_c_38 : Ref sig .tc := ⟨.hbm, 237, rfl⟩
abbrev main_call0_call0_call0_v150 : Ref sig .tc := ⟨.hbm, 238, rfl⟩
abbrev main_call0_call0_call0_v151 : Ref sig .tc := ⟨.hbm, 239, rfl⟩
abbrev main_call0_call0_call0_c_39 : Ref sig .tc := ⟨.hbm, 240, rfl⟩
abbrev main_call0_call0_call0_v152 : Ref sig .tc := ⟨.hbm, 241, rfl⟩
abbrev main_call0_call0_call0_v153 : Ref sig .tc := ⟨.hbm, 242, rfl⟩
abbrev main_call0_call0_call0_v154 : Ref sig .tc := ⟨.hbm, 243, rfl⟩
abbrev main_call0_call0_call0_v155 : Ref sig .tc := ⟨.hbm, 244, rfl⟩
abbrev main_call0_call0_call0_v156 : Ref sig .tc := ⟨.hbm, 245, rfl⟩
abbrev main_call0_call0_call0_c_40 : Ref sig .tc := ⟨.hbm, 246, rfl⟩
abbrev main_call0_call0_call0_v157 : Ref sig .tc := ⟨.hbm, 247, rfl⟩
abbrev main_call0_call0_call0_v158 : Ref sig .tc := ⟨.hbm, 248, rfl⟩
abbrev main_call0_call0_call0_c_41 : Ref sig .tc := ⟨.hbm, 249, rfl⟩
abbrev main_call0_call0_call0_v159 : Ref sig .tc := ⟨.hbm, 250, rfl⟩
abbrev main_call0_call0_call0_v160 : Ref sig .tc := ⟨.hbm, 251, rfl⟩
abbrev main_call0_call0_call0_v161 : Ref sig .tc := ⟨.hbm, 252, rfl⟩
abbrev main_call0_call0_call0_v162 : Ref sig .tc := ⟨.hbm, 253, rfl⟩
abbrev main_call0_call0_call0_v163 : Ref sig .tc := ⟨.hbm, 254, rfl⟩
abbrev main_call0_call0_call0_c_42 : Ref sig .tc := ⟨.hbm, 255, rfl⟩
abbrev main_call0_call0_call0_v164 : Ref sig .tc := ⟨.hbm, 256, rfl⟩
abbrev main_call0_call0_call0_v165 : Ref sig .tc := ⟨.hbm, 257, rfl⟩
abbrev main_call0_call0_call0_c_43 : Ref sig .tc := ⟨.hbm, 258, rfl⟩
abbrev main_call0_call0_call0_v166 : Ref sig .tc := ⟨.hbm, 259, rfl⟩
abbrev main_call0_call0_call0_v167 : Ref sig .tc := ⟨.hbm, 260, rfl⟩
abbrev main_call0_call0_call0_v168 : Ref sig .tc := ⟨.hbm, 261, rfl⟩
abbrev main_call0_call0_call0_v169 : Ref sig .tc := ⟨.hbm, 262, rfl⟩
abbrev main_call0_call0_call0_v170 : Ref sig .tc := ⟨.hbm, 263, rfl⟩
abbrev main_call0_call0_v14_0 : Ref sig .tc := ⟨.hbm, 264, rfl⟩
abbrev main_call0_call0_call0_v172 : Ref sig .tc := ⟨.hbm, 265, rfl⟩
abbrev main_call0_call0_call0_v173 : Ref sig .tc := ⟨.hbm, 266, rfl⟩
abbrev main_call0_call0_call0_c_44 : Ref sig .tc := ⟨.hbm, 267, rfl⟩
abbrev main_call0_call0_call0_v174 : Ref sig .tc := ⟨.hbm, 268, rfl⟩
abbrev main_call0_call0_v14_1 : Ref sig .tc := ⟨.hbm, 269, rfl⟩
abbrev main_call0_call0_v15 : Ref sig .tc := ⟨.hbm, 270, rfl⟩
abbrev main_call0_call0_c_1 : Ref sig .tc := ⟨.hbm, 271, rfl⟩
abbrev main_call0_call0_v16 : Ref sig .tc := ⟨.hbm, 272, rfl⟩
abbrev main_call0_call0_v17 : Ref sig .tc := ⟨.hbm, 273, rfl⟩
abbrev main_call0_call0_c_2 : Ref sig .tc := ⟨.hbm, 274, rfl⟩
abbrev main_call0_call0_v18 : Ref sig .tc := ⟨.hbm, 275, rfl⟩
abbrev main_call0_call0_v19 : Ref sig .tc := ⟨.hbm, 276, rfl⟩
abbrev main_call0_call0_v20 : Ref sig .tc := ⟨.hbm, 277, rfl⟩
abbrev main_call0_call0_cst : Ref sig .tc := ⟨.hbm, 278, rfl⟩
abbrev main_call0_call0_v21 : Ref sig .tc := ⟨.hbm, 279, rfl⟩
abbrev main_call0_call0_v22 : Ref sig .tc := ⟨.hbm, 280, rfl⟩
abbrev main_call0_call0_v23 : Ref sig .tc := ⟨.hbm, 281, rfl⟩
abbrev main_call0_call0_v24 : Ref sig .tc := ⟨.hbm, 282, rfl⟩
abbrev main_call0_call0_v25 : Ref sig .tc := ⟨.hbm, 283, rfl⟩
abbrev main_call0_call0_v26 : Ref sig .tc := ⟨.hbm, 284, rfl⟩
abbrev main_call0_call0_v27 : Ref sig .tc := ⟨.hbm, 285, rfl⟩
abbrev main_call0_call0_v28 : Ref sig .tc := ⟨.hbm, 286, rfl⟩
abbrev main_call0_v0 : Ref sig .tc := ⟨.hbm, 287, rfl⟩
abbrev main_call0_v1 : Ref sig .tc := ⟨.hbm, 288, rfl⟩
abbrev main_call0_v2 : Ref sig .tc := ⟨.hbm, 289, rfl⟩
abbrev main_call0_v3 : Ref sig .tc := ⟨.hbm, 290, rfl⟩
abbrev main_v21 : Ref sig .tc := ⟨.hbm, 291, rfl⟩
abbrev main_v22 : Ref sig .tc := ⟨.hbm, 292, rfl⟩
abbrev main_call1_v0 : Ref sig .tc := ⟨.hbm, 293, rfl⟩
abbrev main_call1_cst : Ref sig .tc := ⟨.hbm, 294, rfl⟩
abbrev main_call1_c : Ref sig .tc := ⟨.hbm, 295, rfl⟩
abbrev main_call1_v1_0 : Ref sig .tc := ⟨.hbm, 296, rfl⟩
abbrev main_v23 : Ref sig .tc := ⟨.hbm, 297, rfl⟩
abbrev main_v24 : Ref sig .tc := ⟨.hbm, 298, rfl⟩

abbrev nD : Nat := 1
abbrev τ : Topo := Topo.v7x

variable {F : FTy → Type} [FloatOps F]
-- ==== DrawnIdeal.lean ====
abbrev S16x16 : Shape := ⟨2, ![16, 16]⟩
abbrev S3x256 : Shape := ⟨2, ![3, 256]⟩
abbrev S3 : Shape := ⟨1, ![3]⟩
abbrev S256 : Shape := ⟨1, ![256]⟩
abbrev S_ : Shape := ⟨0, ![]⟩
abbrev S1 : Shape := ⟨1, ![1]⟩

abbrev nBuf : Space → Nat
  | .hbm => 28
  | .vmem => 0
  | .smem => 0
  | _ => 0

abbrev bufTy : (tb : Table) → Fin (tcTables nBuf tb) → BufTy
  | .hbm, ⟨0, _⟩ => ⟨S16x16, .f32⟩
  | .hbm, ⟨1, _⟩ => ⟨S3x256, .f32⟩
  | .hbm, ⟨2, _⟩ => ⟨S3, .f32⟩
  | .hbm, ⟨3, _⟩ => ⟨S3, .f32⟩
  | .hbm, ⟨4, _⟩ => ⟨S256, .f32⟩
  | .hbm, ⟨5, _⟩ => ⟨S3, .f32⟩
  | .hbm, ⟨6, _⟩ => ⟨S3, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S3, .f32⟩
  | .hbm, ⟨13, _⟩ => ⟨S3, .f32⟩
  | .hbm, ⟨14, _⟩ => ⟨S3, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S3, .f32⟩
  | .hbm, ⟨19, _⟩ => ⟨S3, .f32⟩
  | .hbm, ⟨20, _⟩ => ⟨S3, .f32⟩
  | .hbm, ⟨21, _⟩ => ⟨S3, .f32⟩
  | .hbm, ⟨22, _⟩ => ⟨S3, .i32⟩
  | .hbm, ⟨23, _⟩ => ⟨S_, .f32⟩
  | .hbm, ⟨24, _⟩ => ⟨S_, .i32⟩
  | .hbm, ⟨25, _⟩ => ⟨S_, .f32⟩
  | .hbm, ⟨26, _⟩ => ⟨S_, .i32⟩
  | .hbm, ⟨27, _⟩ => ⟨S1, .i32⟩
  | _, _ => ⟨S16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Proof.Launch.lean ====
/-
  The launch of the routing kernel on SparseCore 0's sequencer: the configuration of the one scalar call, the resource
  algebra of its handshakes and of its transfers' counters, the arrays it is handed, and the memory and the semaphores
  the sequencer owns.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Route

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds are the left factor of the user algebra. -/
abbrev EH : Emb UH (MT nD τ sig (HIx 1) (Elt F) ℕ UU ℕ) := embL

/-! ## The arrays the call names -/

abbrev xLoc (d : Dev nD) : Loc nD τ sig := (SparseCore.T d).loc main_v0
abbrev wLoc (d : Dev nD) : Loc nD τ sig := (SparseCore.T d).loc main_v1
abbrev bLoc (d : Dev nD) : Loc nD τ sig := (SparseCore.T d).loc main_arg2
abbrev oLoc (d : Dev nD) : Loc nD τ sig := (SparseCore.T d).loc main_v2

section Own

variable (d : Dev nD) (c : Fin τ.nSC)

theorem pts_x (f : Buf (Elt F) (xLoc d)) :
    ((Memref.whole main_v0_scs : Memref sig .scScalar .hbm S256 .f32).view.loc (S d c) ↦{fullShare} f : sProp 𝕄) = xLoc d ↦{fullShare} f := by
  simp only [Memref.view_whole, View.set_whole]
theorem pts_w (f : Buf (Elt F) (wLoc d)) :
    ((Memref.whole main_v1_scs : Memref sig .scScalar .hbm S768 .f32).view.loc (S d c) ↦{fullShare} f : sProp 𝕄) = wLoc d ↦{fullShare} f := by
  simp only [Memref.view_whole, View.set_whole]
theorem pts_b (f : Buf (Elt F) (bLoc d)) :
    ((Memref.whole main_arg2_scs : Memref sig .scScalar .hbm S3 .f32).view.loc (S d c) ↦{fullShare} f : sProp 𝕄) = bLoc d ↦{fullShare} f := by
  simp only [Memref.view_whole, View.set_whole]
theorem pts_o (f : Buf (Elt F) (oLoc d)) :
    ((Memref.whole main_v2_scs : Memref sig .scScalar .hbm S1 .i32).view.loc (S d c) ↦{fullShare} f : sProp 𝕄) = oLoc d ↦{fullShare} f := by
  simp only [Memref.view_whole, View.set_whole]

/-! ## What the sequencer owns: its scalar memory, its four DMA semaphores -/

abbrev cellX : GSem nD τ sig := (S d c, .dma cc0_scratch4.sem)
abbrev cellW : GSem nD τ sig := (S d c, .dma cc0_scratch5.sem)
abbrev cellB : GSem nD τ sig := (S d c, .dma cc0_scratch6.sem)
abbrev cellO : GSem nD τ sig := (S d c, .dma cc0_scratch7.sem)

/-- The scoped cells left when the four are taken out. -/
abbrev otherCells : Finset (GSem nD τ sig) := ((((ownCells (S d c)).erase (cellX d c)).erase (cellW d c)).erase (cellB d c)).erase (cellO d c)

theorem cell_mem (s : SemLoc sig) (h : s.isScoped .scScalar = true) : ((S d c, s) : GSem nD τ sig) ∈ ownCells (S d c) :=
  mem_ownCells.mpr ⟨rfl, h⟩

theorem cell_ne {s s' : SemLoc sig} (h : s ≠ s') : ((S d c, s) : GSem nD τ sig) ≠ (S d c, s') := fun e => h (congrArg Prod.snd e)

theorem ownSems0_cells :
    (ownSems0 (S d c) : sProp 𝕄) = iprop(semVal (cellX d c) 0 ∗ semVal (cellW d c) 0 ∗ semVal (cellB d c) 0 ∗ semVal (cellO d c) 0
      ∗ bigSep (otherCells d c) fun g => semVal g 0) := by
  have hX : cellX d c ∈ ownCells (S d c) := cell_mem d c _ (by decide)
  have hW : cellW d c ∈ ownCells (S d c) := cell_mem d c _ (by decide)
  have hB : cellB d c ∈ ownCells (S d c) := cell_mem d c _ (by decide)
  have hO : cellO d c ∈ ownCells (S d c) := cell_mem d c _ (by decide)
  have hW' := Finset.mem_erase.mpr ⟨cell_ne d c (show (SemLoc.dma cc0_scratch5.sem : SemLoc sig) ≠ .dma cc0_scratch4.sem by decide), hW⟩
  have hB' := Finset.mem_erase.mpr ⟨cell_ne d c (show (SemLoc.dma cc0_scratch6.sem : SemLoc sig) ≠ .dma cc0_scratch5.sem by decide),
    Finset.mem_erase.mpr ⟨cell_ne d c (show (SemLoc.dma cc0_scratch6.sem : SemLoc sig) ≠ .dma cc0_scratch4.sem by decide), hB⟩⟩
  have hO' := Finset.mem_erase.mpr ⟨cell_ne d c (show (SemLoc.dma cc0_scratch7.sem : SemLoc sig) ≠ .dma cc0_scratch6.sem by decide),
    Finset.mem_erase.mpr ⟨cell_ne d c (show (SemLoc.dma cc0_scratch7.sem : SemLoc sig) ≠ .dma cc0_scratch5.sem by decide),
    Finset.mem_erase.mpr ⟨cell_ne d c (show (SemLoc.dma cc0_scratch7.sem : SemLoc sig) ≠ .dma cc0_scratch4.sem by decide), hO⟩⟩⟩
  unfold SparseCore.Cfg.ownSems0
  rw [SparseCore.bigSep_erase' hX, SparseCore.bigSep_erase' hW', SparseCore.bigSep_erase' hB', SparseCore.bigSep_erase' hO']

/-- A scalar subcore's own reference, as the device's. -/
abbrev own (b : Ref sig .scScalar) : DevRef τ sig := (Proc.scScalar c).devRef b

/-! The scratch buffers as the kernel's memrefs address them. -/

theorem pts_sx (f : Buf (Elt F) ((S d c).loc cc0_scratch0)) :
    ((Memref.whole cc0_scratch0 : Memref sig .scScalar .smem S256 .f32).view.loc (S d c) ↦{fullShare} f : sProp 𝕄) = ((d, own c cc0_scratch0) : Loc nD τ sig) ↦{fullShare} f := by
  simp only [Memref.view_whole, View.set_whole]
theorem pts_sw (f : Buf (Elt F) ((S d c).loc cc0_scratch1)) :
    ((Memref.whole cc0_scratch1 : Memref sig .scScalar .smem S768 .f32).view.loc (S d c) ↦{fullShare} f : sProp 𝕄) = ((d, own c cc0_scratch1) : Loc nD τ sig) ↦{fullShare} f := by
  simp only [Memref.view_whole, View.set_whole]
theorem pts_sb (f : Buf (Elt F) ((S d c).loc cc0_scratch2)) :
    ((Memref.whole cc0_scratch2 : Memref sig .scScalar .smem S3 .f32).view.loc (S d c) ↦{fullShare} f : sProp 𝕄) = ((d, own c cc0_scratch2) : Loc nD τ sig) ↦{fullShare} f := by
  simp only [Memref.view_whole, View.set_whole]
theorem pts_so (f : Buf (Elt F) ((S d c).loc cc0_scratch3)) :
    ((Memref.whole cc0_scratch3 : Memref sig .scScalar .smem S1 .i32).view.loc (S d c) ↦{fullShare} f : sProp 𝕄) = ((d, own c cc0_scratch3) : Loc nD τ sig) ↦{fullShare} f := by
  simp only [Memref.view_whole, View.set_whole]

/-- The references left when the four scratch buffers are taken out. -/
abbrev otherRefs : Finset (DevRef τ sig) :=
  ((((ownRefs (τ := τ) (.scScalar c)).erase (own c cc0_scratch0)).erase (own c cc0_scratch1)).erase (own c cc0_scratch2)).erase (own c cc0_scratch3)

abbrev anyAt (b : DevRef τ sig) : sProp 𝕄 := iprop(∃ f, ((d, b) : Loc nD τ sig) ↦{fullShare} f)

theorem ownBufs_scratch :
    (ownBufs (S d c) : sProp 𝕄) = iprop(anyAt d (own c cc0_scratch0) ∗ anyAt d (own c cc0_scratch1) ∗ anyAt d (own c cc0_scratch2) ∗ anyAt d (own c cc0_scratch3)
      ∗ bigSep (otherRefs c) fun b => anyAt d b) := by
  have h0 : own c cc0_scratch0 ∈ ownRefs (τ := τ) (sig := sig) (.scScalar c) := mem_ownRefs.mpr rfl
  have h1 : own c cc0_scratch1 ∈ ownRefs (τ := τ) (sig := sig) (.scScalar c) := mem_ownRefs.mpr rfl
  have h2 : own c cc0_scratch2 ∈ ownRefs (τ := τ) (sig := sig) (.scScalar c) := mem_ownRefs.mpr rfl
  have h3 : own c cc0_scratch3 ∈ ownRefs (τ := τ) (sig := sig) (.scScalar c) := mem_ownRefs.mpr rfl
  have e10 : own c cc0_scratch1 ≠ own c cc0_scratch0 := by revert c; decide
  have e20 : own c cc0_scratch2 ≠ own c cc0_scratch0 := by revert c; decide
  have e21 : own c cc0_scratch2 ≠ own c cc0_scratch1 := by revert c; decide
  have e30 : own c cc0_scratch3 ≠ own c cc0_scratch0 := by revert c; decide
  have e31 : own c cc0_scratch3 ≠ own c cc0_scratch1 := by revert c; decide
  have e32 : own c cc0_scratch3 ≠ own c cc0_scratch2 := by revert c; decide
  unfold SparseCore.Cfg.ownBufs
  rw [SparseCore.bigSep_erase' h0, SparseCore.bigSep_erase' (Finset.mem_erase.mpr ⟨e10, h1⟩),
    SparseCore.bigSep_erase' (Finset.mem_erase.mpr ⟨e21, Finset.mem_erase.mpr ⟨e20, h2⟩⟩),
    SparseCore.bigSep_erase' (Finset.mem_erase.mpr ⟨e32, Finset.mem_erase.mpr ⟨e31, Finset.mem_erase.mpr ⟨e30, h3⟩⟩⟩)]

end Own

end Cert.Proof.Route

end
-- ==== Proof.Body.lean ====
/-
  The routing kernel's body on the sequencer, run symbolically.
-/
module

public import proofs.«01_k».proof.Proof.Launch
public import Idealize.ShloMosaic.Lib.VecWindow

@[expose] public section

noncomputable section

namespace Cert.Proof.Route

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

local notation "xHn" => (Memref.whole Cert.KernelIdeal.main_v0_scs : Memref Cert.KernelIdeal.sig Kind.scScalar Space.hbm Cert.KernelIdeal.S256 EltTy.f32)
local notation "wHn" => (Memref.whole Cert.KernelIdeal.main_v1_scs : Memref Cert.KernelIdeal.sig Kind.scScalar Space.hbm Cert.KernelIdeal.S768 EltTy.f32)
local notation "bHn" => (Memref.whole Cert.KernelIdeal.main_arg2_scs : Memref Cert.KernelIdeal.sig Kind.scScalar Space.hbm Cert.KernelIdeal.S3 EltTy.f32)
local notation "oHn" => (Memref.whole Cert.KernelIdeal.main_v2_scs : Memref Cert.KernelIdeal.sig Kind.scScalar Space.hbm Cert.KernelIdeal.S1 EltTy.i32)
local notation "xSn" => (Memref.whole Cert.KernelIdeal.cc0_scratch0 : Memref Cert.KernelIdeal.sig Kind.scScalar Space.smem Cert.KernelIdeal.S256 EltTy.f32)
local notation "wSn" => (Memref.whole Cert.KernelIdeal.cc0_scratch1 : Memref Cert.KernelIdeal.sig Kind.scScalar Space.smem Cert.KernelIdeal.S768 EltTy.f32)
local notation "bSn" => (Memref.whole Cert.KernelIdeal.cc0_scratch2 : Memref Cert.KernelIdeal.sig Kind.scScalar Space.smem Cert.KernelIdeal.S3 EltTy.f32)
local notation "oSn" => (Memref.whole Cert.KernelIdeal.cc0_scratch3 : Memref Cert.KernelIdeal.sig Kind.scScalar Space.smem Cert.KernelIdeal.S1 EltTy.i32)

def coordsS (c : Fin (grid0.bound 0)) : grid0.Coords := fun | 0 => c | ⟨_ + 1, h⟩ => absurd h (Nat.not_lt.2 (Nat.le_add_left _ _))

abbrev thr (d : Dev nD) (c : Fin (grid0.bound 0)) : Thread nD τ := S d (c.castLE hcore0)

abbrev theBody (c : Fin (grid0.bound 0)) := cc0_route (F := F) (coordsS c) xHn (Memref.isWhole_whole _) wHn (Memref.isWhole_whole _) bHn (Memref.isWhole_whole _)
  oHn (Memref.isWhole_whole _) xSn (Memref.isWhole_whole _) wSn (Memref.isWhole_whole _) bSn (Memref.isWhole_whole _) oSn (Memref.isWhole_whole _)
  cc0_scratch4 cc0_scratch5 cc0_scratch6 cc0_scratch7

/-! ## What the body computes -/

/-- Word `i` of an array of `n`. -/
def wordAt (n : ℕ) (f : (⟨1, ![n]⟩ : Shape).Idx → F .f32) (i : ℕ) : F .f32 :=
  if h : i < n then f (fun | 0 => ⟨i, h⟩) else Scalar.ofBits .f32 0#32

theorem read_word {κ : Kind} {sp : Space} {n : ℕ} (v : View sig κ sp ⟨1, ![n]⟩ .f32) (f : v.ty.Contents (Elt F)) {off : Fin 1 → ℕ} {i : ℕ}
    (hoff : off = ![i]) (h : ∀ a, off a + S1.size a ≤ (⟨1, ![n]⟩ : Shape).size a) (x : (Rect.unit (s := ⟨1, ![n]⟩) off S1.size h).toLoadRect.shape.Idx) :
    View.readAt (Elt F) v (Rect.unit (s := ⟨1, ![n]⟩) off S1.size h).toLoadRect f x = wordAt n (v.read (Elt F) f) i := by
  subst hoff
  have hi : i < n := by have := h 0; simp at this; omega
  unfold wordAt
  rw [dif_pos hi]
  refine congrArg (v.read (Elt F) f) (funext fun a => ?_)
  match a with
  | 0 =>
    refine Fin.ext ?_
    have hx : (x 0).val = 0 := Nat.lt_one_iff.mp (x 0).isLt
    show i + 1 * (x 0).val = i
    omega

/-- One trip of the loop: the three sums, four products more each. -/
def tripOf (xs : S256.Idx → F .f32) (ws : S768.Idx → F .f32) (k : ℕ) (a : F .f32 × F .f32 × F .f32) : F .f32 × F .f32 × F .f32 :=
  let x := fun c => wordAt 256 xs (4 * k + c)
  let w := fun r c => wordAt 768 ws (256 * r + (4 * k + c))
  (k0_pay4 (k0_pay9 a.1 (x 0) (w 0 0) (x 1) (w 0 1) (x 2) (w 0 2)) (x 3) (w 0 3),
    k0_pay5 (k0_pay10 a.2.1 (x 0) (w 1 0) (x 1) (w 1 1) (x 2) (w 1 2)) (x 3) (w 1 3),
    k0_pay6 (k0_pay8 a.2.2 (x 0) (w 2 0) (x 1) (w 2 1)) (x 2) (w 2 2) (x 3) (w 2 3))

/-- The three sums before trip `k`. -/
def sumsAt (xs : S256.Idx → F .f32) (ws : S768.Idx → F .f32) (bs : S3.Idx → F .f32) (k : ℕ) : F .f32 × F .f32 × F .f32 :=
  k.rec (k0_pay1 (wordAt 3 bs 0), k0_pay2 (wordAt 3 bs 1), k0_pay3 (wordAt 3 bs 2)) (tripOf xs ws)

/-- The index written: the greatest of three scores, the first of equal ones. -/
def pick (a : F .f32 × F .f32 × F .f32) : BitVec 32 :=
  Scalar.select (Scalar.cmpf .ogt a.2.2 (k0_pay7 a.1 a.2.1)) 2#32 (Scalar.select (Scalar.cmpf .ogt a.2.1 a.1) 1#32 0#32)

/-- The word the kernel leaves. -/
def routed (xs : S256.Idx → F .f32) (ws : S768.Idx → F .f32) (bs : S3.Idx → F .f32) : BitVec 32 := pick (sumsAt xs ws bs k0_t1_loop.trips)

/-- Before trip `k`: the two scratch arrays read, the sums so far. -/
def inv (d : Dev nD) (c : Fin (grid0.bound 0)) (xs : S256.Idx → F .f32) (ws : S768.Idx → F .f32) (bs : S3.Idx → F .f32) (k : ℕ)
    (a : F .f32 × F .f32 × F .f32) : sProp 𝕄 :=
  iprop(((xSn).view.loc (thr d c) ↦{fullShare} (xs : Buf (Elt F) ((thr d c).loc cc0_scratch0)))
    ∗ ((wSn).view.loc (thr d c) ↦{fullShare} (ws : Buf (Elt F) ((thr d c).loc cc0_scratch1)))
    ∗ ⌜a = sumsAt xs ws bs k⌝)

/-- The call's arrays: the three read at their contents, the result whole. -/
abbrev arrays (d : Dev nD) (fx : Buf (Elt F) (xLoc d)) (fw : Buf (Elt F) (wLoc d)) (fb : Buf (Elt F) (bLoc d)) : sProp 𝕄 :=
  iprop((xLoc d ↦{fullShare} fx) ∗ (wLoc d ↦{fullShare} fw) ∗ (bLoc d ↦{fullShare} fb))

abbrev outAny (d : Dev nD) : sProp 𝕄 := iprop(∃ f : Buf (Elt F) (oLoc d), oLoc d ↦{fullShare} f)

/-- The result whole, at `f`. -/
abbrev outAt (d : Dev nD) (f : Buf (Elt F) (oLoc d)) : sProp 𝕄 := oLoc d ↦{fullShare} f

/-- The body, from the arrays to the arrays and the picked index: three copies in, the loop at `inv`, one copy out. -/
theorem body (d : Dev nD) (c : Fin (grid0.bound 0)) (fx : Buf (Elt F) (xLoc d)) (fw : Buf (Elt F) (wLoc d)) (fb : Buf (Elt F) (bLoc d))
    (O : CellTallies nD τ sig (HIx 1)) (W : Waits sig (HIx 1)) (hO : ∀ g, O g none = 0) :
    iprop(levAts (K (F := F)).L (K (F := F)).lev ∗ emp ∗ (arrays d fx fw fb ∗ outAny d)
        ∗ scopedBufs (thr d c) ∗ scopedSems0 (thr d c) ∗ owes (thr d c) O W)
      ⊢ wp frame (wpE (defs₀ (F := F)) 𝒱₀ (thr d c) none) Set.univ (theBody c)
          fun _ => iprop((arrays d fx fw fb ∗ outAt d (fun _ => routed fx fw fb))
            ∗ scopedBufs (thr d c) ∗ scopedSems0 (thr d c) ∗ ∃ W', ⌜∀ p ∈ W', p ∈ W ∨ p.2 = none⌝ ∗ owes (thr d c) O W') := by
  rw [(K (F := F)).scopedBufs_S launchFacts d _, SparseCore.Cfg.scopedSems0_S (Val := Elt F) d _, ownSems0_cells, ownBufs_scratch]
  unfold theBody; simp only [cc0_route_eq_skeleton]; unfold cc0_route_skel
  iintro ⟨#Hlv, -, ⟨⟨Hx, Hw, Hb⟩, %fo, Ho⟩, ⟨⟨⟨%sx, Hsx⟩, ⟨%sw, Hsw⟩, ⟨%sb, Hsb⟩, ⟨%so, Hso⟩, Hsr⟩, Hsv⟩, ⟨⟨Hcx, Hcw, Hcb, Hco, Hcr⟩, Hcv⟩, HO⟩
  ihave Hmw := ((K (F := F)).mayWaits_none (thr := thr d c) hO) $$ Hlv
  ihave Hx := (Entails.of_eq (pts_x (F := F) d (c.castLE hcore0) _).symm) $$ Hx
  ihave Hw := (Entails.of_eq (pts_w (F := F) d (c.castLE hcore0) _).symm) $$ Hw
  ihave Hb := (Entails.of_eq (pts_b (F := F) d (c.castLE hcore0) _).symm) $$ Hb
  ihave Ho := (Entails.of_eq (pts_o (F := F) d (c.castLE hcore0) _).symm) $$ Ho
  ihave Hsx := (Entails.of_eq (pts_sx (F := F) d (c.castLE hcore0) _).symm) $$ Hsx
  ihave Hsw := (Entails.of_eq (pts_sw (F := F) d (c.castLE hcore0) _).symm) $$ Hsw
  ihave Hsb := (Entails.of_eq (pts_sb (F := F) d (c.castLE hcore0) _).symm) $$ Hsb
  ihave Hso := (Entails.of_eq (pts_so (F := F) d (c.castLE hcore0) _).symm) $$ Hso
  sl_exec
  rw [show View.write (Elt F) (xSn).view sx (body.sl.dma0 d fx) Finset.univ = fx from View.write_whole_univ _ _ _,
    show View.write (Elt F) (wSn).view sw (body.sl.dma0_1 d fw) Finset.univ = fw from View.write_whole_univ _ _ _,
    show View.write (Elt F) (bSn).view sb (body.sl.dma0_2 d fb) Finset.univ = fb from View.write_whole_univ _ _ _]
  sl_for (inv d c fx fw fb) $$ [Hsx Hsw]
  case region =>
    intro k a
    unfold inv
    iintro ⟨Hsx, Hsw, %ha⟩
    sl_exec
    sl_step
    isplitl [Hsx]; · iexact Hsx
    isplitl [Hsw]; · iexact Hsw
    ipureintro
    subst ha
    delta body.sl.r_21 body.sl.r_20 body.sl.r_19 body.sl.r_18 body.sl.r_17 body.sl.r_16 body.sl.r_15 body.sl.r_14 body.sl.r_13 body.sl.r_12 body.sl.r_11 body.sl.r_10 body.sl.r_9 body.sl.r_8 body.sl.r_7 body.sl.r_6 body.sl.r_5 body.sl.r_4 body.sl.r_3
    rw [read_word (xSn).view fx (show k0_off1 k 0#32 = ![4 * k.val + 0] from k0_off1_eq k 0),
      read_word (xSn).view fx (show k0_off1 k 1#32 = ![4 * k.val + 1] from k0_off1_eq k 1),
      read_word (xSn).view fx (show k0_off1 k 2#32 = ![4 * k.val + 2] from k0_off1_eq k 2),
      read_word (xSn).view fx (show k0_off1 k 3#32 = ![4 * k.val + 3] from k0_off1_eq k 3),
      read_word (wSn).view fw (show k0_off2 k 0#32 = ![256 * 0 + (4 * k.val + 0)] from (k0_off2_eq k 0).trans (congrArg (fun i => ![i]) (by show 4 * k.val + 0 = _; omega))),
      read_word (wSn).view fw (show k0_off2 k 1#32 = ![256 * 0 + (4 * k.val + 1)] from (k0_off2_eq k 1).trans (congrArg (fun i => ![i]) (by show 4 * k.val + 1 = _; omega))),
      read_word (wSn).view fw (show k0_off2 k 2#32 = ![256 * 0 + (4 * k.val + 2)] from (k0_off2_eq k 2).trans (congrArg (fun i => ![i]) (by show 4 * k.val + 2 = _; omega))),
      read_word (wSn).view fw (show k0_off2 k 3#32 = ![256 * 0 + (4 * k.val + 3)] from (k0_off2_eq k 3).trans (congrArg (fun i => ![i]) (by show 4 * k.val + 3 = _; omega))),
      read_word (wSn).view fw (show k0_off3 k 256#32 0#32 = ![256 * 1 + (4 * k.val + 0)] from (k0_off3_eq k 0 0).trans (congrArg (fun i => ![i]) (by show 256 * 0 + 4 * k.val + 0 + 256 = _; omega))),
      read_word (wSn).view fw (show k0_off3 k 256#32 1#32 = ![256 * 1 + (4 * k.val + 1)] from (k0_off3_eq k 0 1).trans (congrArg (fun i => ![i]) (by show 256 * 0 + 4 * k.val + 1 + 256 = _; omega))),
      read_word (wSn).view fw (show k0_off3 k 256#32 2#32 = ![256 * 1 + (4 * k.val + 2)] from (k0_off3_eq k 0 2).trans (congrArg (fun i => ![i]) (by show 256 * 0 + 4 * k.val + 2 + 256 = _; omega))),
      read_word (wSn).view fw (show k0_off3 k 256#32 3#32 = ![256 * 1 + (4 * k.val + 3)] from (k0_off3_eq k 0 3).trans (congrArg (fun i => ![i]) (by show 256 * 0 + 4 * k.val + 3 + 256 = _; omega))),
      read_word (wSn).view fw (show k0_off3 k 512#32 0#32 = ![256 * 2 + (4 * k.val + 0)] from (k0_off3_eq k 1 0).trans (congrArg (fun i => ![i]) (by show 256 * 1 + 4 * k.val + 0 + 256 = _; omega))),
      read_word (wSn).view fw (show k0_off3 k 512#32 1#32 = ![256 * 2 + (4 * k.val + 1)] from (k0_off3_eq k 1 1).trans (congrArg (fun i => ![i]) (by show 256 * 1 + 4 * k.val + 1 + 256 = _; omega))),
      read_word (wSn).view fw (show k0_off3 k 512#32 2#32 = ![256 * 2 + (4 * k.val + 2)] from (k0_off3_eq k 1 2).trans (congrArg (fun i => ![i]) (by show 256 * 1 + 4 * k.val + 2 + 256 = _; omega))),
      read_word (wSn).view fw (show k0_off3 k 512#32 3#32 = ![256 * 2 + (4 * k.val + 3)] from (k0_off3_eq k 1 3).trans (congrArg (fun i => ![i]) (by show 256 * 1 + 4 * k.val + 3 + 256 = _; omega)))]
    rfl
  · unfold inv
    isplitl [Hsx]; · iexact Hsx
    isplitl [Hsw]; · iexact Hsw
    ipureintro
    delta body.sl.r body.sl.r_1 body.sl.r_2
    rw [show View.write (Elt F) (bSn).view sb (body.sl.dma0_2 d fb) Finset.univ = fb from View.write_whole_univ _ _ _,
      read_word (bSn).view fb (show (![0] : Fin 1 → ℕ) = ![0] from rfl), read_word (bSn).view fb (show (![1] : Fin 1 → ℕ) = ![1] from rfl),
      read_word (bSn).view fb (show (![2] : Fin 1 → ℕ) = ![2] from rfl)]
    rfl
  iintro %a HI
  unfold inv
  icases HI with ⟨Hsx, Hsw, %ha⟩
  sl_exec
  have ho : View.write (Elt F) (Memref.whole main_v2_scs : Memref sig .scScalar .hbm S1 .i32).view fo (body.sl.dma2 d c so a) Finset.univ = fun _ => routed fx fw fb := by
    refine (View.write_whole_univ _ _ _).trans ?_
    unfold body.sl.dma2 body.sl.Hso_1
    subst ha
    exact View.read_writes_full _ _ _ _ _
  rw [ho]
  sl_step
  isplitl [Hx Hw Hb Ho]
  · isplitl [Hx Hw Hb]
    · isplitl [Hx]; · iapply (Entails.of_eq (pts_x (F := F) d _ _)); iexact Hx
      isplitl [Hw]; · iapply (Entails.of_eq (pts_w (F := F) d _ _)); iexact Hw
      iapply (Entails.of_eq (pts_b (F := F) d _ _)); iexact Hb
    · iapply (Entails.of_eq (pts_o (F := F) d _ _)); iexact Ho
  isplitl [Hsx Hsw Hsb Hso Hsr Hsv]
  · isplitl [Hsx Hsw Hsb Hso Hsr]
    · isplitl [Hsx]; · iexists _; iapply (Entails.of_eq (pts_sx (F := F) d _ _)); iexact Hsx
      isplitl [Hsw]; · iexists _; iapply (Entails.of_eq (pts_sw (F := F) d _ _)); iexact Hsw
      isplitl [Hsb]; · iexists _; iapply (Entails.of_eq (pts_sb (F := F) d _ _)); iexact Hsb
      isplitl [Hso]; · iexists _; iapply (Entails.of_eq (pts_so (F := F) d _ _)); iexact Hso
      iexact Hsr
    · iexact Hsv
  isplitl [Hcx Hcw Hcb Hco Hcr Hcv]
  · isplitl [Hcx Hcw Hcb Hco Hcr]
    · isplitl [Hcx]; · iexact Hcx
      isplitl [Hcw]; · iexact Hcw
      isplitl [Hcb]; · iexact Hcb
      isplitl [Hco]; · iexact Hco
      iexact Hcr
    · iexact Hcv
  iexists _; isplitr
  rotate_left
  · iexact HO
  ipureintro; intro p hp
  simp only [Finset.mem_insert] at hp
  rcases hp with rfl | rfl | rfl | rfl | hp
  · exact .inr rfl
  · exact .inr rfl
  · exact .inr rfl
  · exact .inr rfl
  · exact .inl hp

end Cert.Proof.Route

end
-- ==== Proof.Run.lean ====
/-
  The whole program's run: the two reshapes on the TensorCore, the call on SparseCore 0's sequencer, the result.
-/
module

public import proofs.«01_k».proof.Proof.Body

@[expose] public section

noncomputable section

namespace Cert.Proof.Route

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## @main's operations and valuations -/

abbrev a0' : DevRef τ sig := Proc.devRef .tc (main_arg0 : Ref sig .tc)
abbrev a1' : DevRef τ sig := Proc.devRef .tc (main_arg1 : Ref sig .tc)
abbrev b' : DevRef τ sig := Proc.devRef .tc (main_arg2 : Ref sig .tc)
abbrev x' : DevRef τ sig := Proc.devRef .tc (main_v0 : Ref sig .tc)
abbrev w' : DevRef τ sig := Proc.devRef .tc (main_v1 : Ref sig .tc)
abbrev o' : DevRef τ sig := Proc.devRef .tc (main_v2 : Ref sig .tc)

abbrev opX : HloOp τ sig (Elt F) := StableHlo.reshape main_arg0 main_v0 (rfl : (.f32 : EltTy) = .f32) shapeCasts_S16x16_S256
abbrev opW : HloOp τ sig (Elt F) := StableHlo.reshape main_arg1 main_v1 (rfl : (.f32 : EltTy) = .f32) shapeCasts_S3x256_S768

/-- @main's arrays, all unscoped. -/
abbrev SA : Finset (DevRef τ sig) := {a0', a1', b', x', w', o'}

abbrev a0Loc (d : Dev nD) : Loc nD τ sig := (SparseCore.T d).loc main_arg0
abbrev a1Loc (d : Dev nD) : Loc nD τ sig := (SparseCore.T d).loc main_arg1

theorem held_SA (d : Dev nD) (Z : Valuation τ sig (Elt F)) :
    (held (T d) SA Z : sProp 𝕄) = iprop((a0Loc d ↦{fullShare} Z a0') ∗ (a1Loc d ↦{fullShare} Z a1') ∗ (bLoc d ↦{fullShare} Z b')
      ∗ (xLoc d ↦{fullShare} Z x') ∗ (wLoc d ↦{fullShare} Z w') ∗ oLoc d ↦{fullShare} Z o') := by
  unfold held SA
  rw [SparseCore.bigSep_insert' (by decide), SparseCore.bigSep_insert' (by decide), SparseCore.bigSep_insert' (by decide), SparseCore.bigSep_insert' (by decide),
    SparseCore.bigSep_insert' (by decide), bigSep_singleton]

theorem unscopedBufs_eq (d : Dev nD) (Z : (b : Ref sig .tc) → Buf (Elt F) ((d.tc : Thread nD τ).loc b)) :
    (unscopedBufs d Z : sProp 𝕄) = iprop((a0Loc d ↦{fullShare} Z main_arg0) ∗ (a1Loc d ↦{fullShare} Z main_arg1) ∗ (bLoc d ↦{fullShare} Z main_arg2)
      ∗ (xLoc d ↦{fullShare} Z main_v0) ∗ (wLoc d ↦{fullShare} Z main_v1) ∗ oLoc d ↦{fullShare} Z main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide), SparseCore.bigSep_insert' (by decide),
    SparseCore.bigSep_insert' (by decide), bigSep_singleton]

/-- The valuation at launch. -/
def V0 (d : Dev nD) : Valuation τ sig (Elt F) := fun b => m (d, b)

/-- The flattened image and the flattened weights. -/
def flatX (d : Dev nD) : Buf (Elt F) (xLoc d) := shapeCast S256 (m (a0Loc d)) shapeCasts_S16x16_S256
def flatW (d : Dev nD) : Buf (Elt F) (wLoc d) := shapeCast S768 (m (a1Loc d)) shapeCasts_S3x256_S768

theorem unscoped_held (d : Dev nD) : (unscopedBufs d (fun b => m ((SparseCore.T d).loc b)) : sProp 𝕄) = held (T d) SA (V0 m d) := by
  rw [unscopedBufs_eq, held_SA]; rfl

theorem held_flat (d : Dev nD) :
    (held (T d) SA ((opW (F := F)).result ((opX (F := F)).result (V0 m d))) : sProp 𝕄)
      = iprop((a0Loc d ↦{fullShare} m (a0Loc d)) ∗ (a1Loc d ↦{fullShare} m (a1Loc d)) ∗ (bLoc d ↦{fullShare} m (bLoc d))
          ∗ (xLoc d ↦{fullShare} flatX m d) ∗ (wLoc d ↦{fullShare} flatW m d) ∗ oLoc d ↦{fullShare} m (oLoc d)) := by
  have e (b : DevRef τ sig) (hx : b ∉ ({x'} : Finset (DevRef τ sig))) (hw : b ∉ ({w'} : Finset (DevRef τ sig))) :
      (opW (F := F)).result ((opX (F := F)).result (V0 m d)) b = m (d, b) :=
    ((opW (F := F)).result_of_not_mem _ hw).trans ((opX (F := F)).result_of_not_mem _ hx)
  have ex : (opW (F := F)).result ((opX (F := F)).result (V0 m d)) x' = flatX m d :=
    ((opW (F := F)).result_of_not_mem _ (show x' ∉ ({w'} : Finset (DevRef τ sig)) by decide)).trans (StableHlo.reshape_result _ _ _ _ _ _ _)
  have ew : (opW (F := F)).result ((opX (F := F)).result (V0 m d)) w' = flatW m d := by
    refine (StableHlo.reshape_result _ _ _ _ _ _ _).trans ?_
    rw [(opX (F := F)).result_of_not_mem _ (show a1' ∉ ({x'} : Finset (DevRef τ sig)) by decide)]
    rfl
  rw [held_SA, e a0' (by decide) (by decide), e a1' (by decide) (by decide), e b' (by decide) (by decide), e o' (by decide) (by decide), ex, ew]

variable [FloatOps F]

/-- The word the kernel leaves for the arguments in `m`. -/
def answer (d : Dev nD) : BitVec 32 := routed (flatX m d) (flatW m d) (m (bLoc d))

/-! ## The call's payloads and its obligation -/

/-- What the call hands the sequencer, and what it takes back. -/
abbrev toCore (d : Dev nD) : sProp 𝕄 := iprop(arrays d (flatX m d) (flatW m d) (m (bLoc d)) ∗ outAny d)
abbrev ofCore (d : Dev nD) : sProp 𝕄 := iprop(arrays d (flatX m d) (flatW m d) (m (bLoc d)) ∗ outAt d (fun _ => answer m d))

def P : (K (F := F)).Pay (nD := nD) (Val := Elt F) (Name := ℕ) (U := UU) where
  st := fun _ d _ => toCore m d
  dn := fun _ d _ => ofCore m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem defs₀_scalar (c : Fin τ.nSC) :
    defs₀ (F := F) (.scScalar c) 0 () = SparseCore.onCore hcore0 (fun c => theBody (F := F) c) ⟨⟩ c := rfl

theorem widen {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (body d c (flatX m d) (flatW m d) (m (bLoc d)) O W hO).trans (wp_mono frame _ _ fun _ => widen)

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## @main on the TensorCore -/

theorem st0_eq (d : Dev nD) : (bigSep Finset.univ fun c : Fin ((K (F := F)).nCore 0) => (P m).st 0 d c) = toCore m d := by
  show (bigSep (Finset.univ : Finset (Fin 1)) fun _ => toCore m d) = _
  rw [show (Finset.univ : Finset (Fin 1)) = {0} by decide, bigSep_singleton]
theorem dn0_eq (d : Dev nD) : (bigSep Finset.univ fun c : Fin ((K (F := F)).nCore 0) => (P m).dn 0 d c) = ofCore m d := by
  show (bigSep (Finset.univ : Finset (Fin 1)) fun _ => ofCore m d) = _
  rw [show (Finset.univ : Finset (Fin 1)) = {0} by decide, bigSep_singleton]

/-- What @main leaves: the arguments at their launch contents, the result at the answer. -/
abbrev FIN (d : Dev nD) : sProp 𝕄 :=
  iprop((a0Loc d ↦{fullShare} m (a0Loc d)) ∗ (a1Loc d ↦{fullShare} m (a1Loc d)) ∗ (bLoc d ↦{fullShare} m (bLoc d)) ∗ outAt d (fun _ => answer m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := SA) (show ({a0', x'} : Finset (DevRef τ sig)) ⊆ SA by decide) (V := V0 m d)) $$ [Hb Hheld]
  · isplitl [Hb] <;> iassumption
  iintro ⟨Hb, Hheld⟩
  rw [wp_ret]; imodintro
  iapply (wp_hlo_within 𝒱 (SparseCore.T d) none Set.univ (op := opW) (S := SA) (show ({a1', w'} : Finset (DevRef τ sig)) ⊆ SA by decide)
    (V := (opX (F := F)).result (V0 m d))) $$ [Hb Hheld]
  · isplitl [Hb] <;> iassumption
  iintro ⟨Hb, Hheld⟩
  rw [wp_ret]; imodintro
  ihave Hh := (Entails.of_eq (held_flat (F := F) m d)) $$ Hheld
  icases Hh with ⟨Ha0, Ha1, Hbb, Hx, Hw, Ho⟩
  iapply ((K (F := F)).wp_run (D (F := F)) 𝒱 (EH := EH) (P := P m) κ d 0) $$ [Hst Ha0 Ha1 Hbb Hx Hw Ho Hb Hts]
  isplitr; · iexact Hctx
  isplitl [Hst]; · iexact Hst
  isplitl [Hbb Hx Hw Ho]
  · rw [st0_eq]
    isplitl [Hbb Hx Hw]
    · isplitl [Hx]; · iexact Hx
      isplitl [Hw]; · iexact Hw
      iexact Hbb
    · iexists _; iexact Ho
  iintro ⟨Hst, Hdn⟩
  ihave Hdn' := (Entails.of_eq (dn0_eq m d)) $$ Hdn
  icases Hdn' with ⟨⟨Hx, Hw, Hbb⟩, Ho⟩
  imodintro
  isplitl [Hst]; · iexact Hst
  isplitr [Hb Hts]
  · isplitl [Ha0]; · iexact Ha0
    isplitl [Ha1]; · iexact Ha1
    isplitl [Hbb]; · iexact Hbb
    iexact Ho
  isplitl [Hb] <;> iassumption

def fq (d : Dev nD) (s' : Phys nD τ sig (Elt F)) : Prop :=
  s'.mem.mem (oLoc d) = (fun _ => answer m d) ∧ s'.mem.mem (a0Loc d) = m (a0Loc d) ∧ s'.mem.mem (a1Loc d) = m (a1Loc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨H0, H1, H2, H3⟩, HSI⟩
  icombine HSI H0 gives %h0
  icombine HSI H1 gives %h1
  icombine HSI H2 gives %h2
  icombine HSI H3 gives %h3
  ipureintro
  exact ⟨funext fun i => h3 i (Finset.mem_univ i), funext fun i => h0 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (oLoc c) = (fun _ => answer m c) ∧ r.2.mem (a0Loc c) = m (a0Loc c) ∧ r.2.mem (a1Loc c) = m (a1Loc c) ∧ r.2.mem (bLoc c) = m (bLoc c))
    ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Route

end
-- ==== Proof.Values.lean ====
/-
  Values on the extended reals: a float sum, an exponential, a quotient and a logarithm of real numbers; the arg-max of three.
-/
module

public import proofs.«01_k».proof.Proof.Gen.DrawnIdeal
public import Idealize.ShloMosaic.Lib.Pointwise
public import Idealize.ShloMosaic.Lib.IdealHost
public import Idealize.ShloMosaic.Lib.ReduceAll

@[expose] public section

noncomputable section

namespace Cert.Proof.Values

open Idealize.ShloMosaic

/-! ## Operations at real numbers -/

theorem exp_real (r : ℝ) : Ideal.exp (r : EReal) = (Real.exp r : EReal) := rfl

theorem log_real {r : ℝ} (h : 0 < r) : Ideal.log (r : EReal) = (Real.log r : EReal) := if_neg (not_le.2 h)

theorem div_real (r : ℝ) {s : ℝ} (h : 0 < s) : Ideal.div (r : EReal) (s : EReal) = ((r / s : ℝ) : EReal) := by
  unfold Ideal.div
  rw [if_neg (by exact_mod_cast h.ne')]
  rw [← EReal.coe_inv, ← EReal.coe_mul, div_eq_mul_inv]

theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An extended real whose absolute value is below `+∞` is a real number. -/
theorem real_of_abs_lt {x : EReal} (h : max x (-x) < ⊤) : ((x.toReal : ℝ) : EReal) = x := by
  refine EReal.coe_toReal ?_ ?_
  · rintro rfl; simp at h
  · rintro rfl; simp at h

/-! ## The arg-max of three -/

/-- The index of the greatest of three numbers, the first of equal ones. -/
def first (z : Fin 3 → ℝ) : BitVec 32 := if z 0 < z 2 ∧ z 1 < z 2 then 2#32 else if z 0 < z 1 then 1#32 else 0#32

/-- It does not change when the three numbers are shifted together. -/
theorem first_shift (z : Fin 3 → ℝ) (c : ℝ) : first (fun r => z r - c) = first z := by
  simp [first]

/-- It is the index of the one number that exceeds the other two. -/
theorem first_of_gap {z z' : Fin 3 → ℝ} (k : Fin 3) (h : ∀ r, r ≠ k → z r < z k) (h' : ∀ r, r ≠ k → z' r < z' k) : first z = first z' := by
  unfold first
  fin_cases k
  · have a := h 1 (by decide); have b := h 2 (by decide); have c := h' 1 (by decide); have d := h' 2 (by decide)
    simp only [Fin.zero_eta, Fin.isValue] at a b c d
    rw [if_neg (fun q => absurd q.1 b.not_gt), if_neg a.not_gt, if_neg (fun q => absurd q.1 d.not_gt), if_neg c.not_gt]
  · have a := h 0 (by decide); have b := h 2 (by decide); have c := h' 0 (by decide); have d := h' 2 (by decide)
    simp only [Fin.mk_one, Fin.isValue] at a b c d
    rw [if_neg (fun q => absurd q.2 b.not_gt), if_pos a, if_neg (fun q => absurd q.2 d.not_gt), if_pos c]
  · have a := h 0 (by decide); have b := h 1 (by decide); have c := h' 0 (by decide); have d := h' 1 (by decide)
    simp only [Fin.reduceFinMk, Fin.isValue] at a b c d
    rw [if_pos ⟨a, b⟩, if_pos ⟨c, d⟩]

section

open Cert.DrawnIdeal Cert.DrawnIdeal.Gen

theorem une_self (a : EReal) : Ideal.cmp .une a a = 0#1 := by simp [Ideal.cmp]

/-- One step of the arg-max from the initial pair. -/
theorem step_init (b : ℝ) (i : BitVec 32) : reducer_argmax_f32_i32 (F := Ideal) ((⊥ : EReal), i) ((b : EReal), i) = ((b : EReal), i) := by
  unfold reducer_argmax_f32_i32
  simp only [Ideal.cmpf_def, une_self]
  have h1 : Ideal.cmp .ogt (⊥ : EReal) (b : EReal) = 0#1 := by simp [Ideal.cmp]
  have h2 : Ideal.cmp .oeq (⊥ : EReal) (b : EReal) = 0#1 := by simp [Ideal.cmp]
  rw [h1, h2]
  simp [IntOp.ori, IntOp.andi, Scalar.select]

/-- One step of the arg-max at real numbers, from an earlier index: the earlier pair stays unless the later number is greater. -/
theorem step_real (a b : ℝ) {i j : BitVec 32} (hij : IntOp.cmpi .slt i j = 1#1) :
    reducer_argmax_f32_i32 (F := Ideal) ((a : EReal), i) ((b : EReal), j) = if a < b then ((b : EReal), j) else ((a : EReal), i) := by
  unfold reducer_argmax_f32_i32
  simp only [Ideal.cmpf_def, une_self, hij]
  rcases lt_trichotomy a b with h | h | h
  · have h1 : Ideal.cmp .ogt (a : EReal) (b : EReal) = 0#1 := by simp [Ideal.cmp, h.not_gt]
    have h2 : Ideal.cmp .oeq (a : EReal) (b : EReal) = 0#1 := by simp [Ideal.cmp, h.ne]
    rw [h1, h2, if_pos h]
    simp [IntOp.ori, IntOp.andi, Scalar.select]
  · subst h
    have h1 : Ideal.cmp .ogt (a : EReal) (a : EReal) = 0#1 := by simp [Ideal.cmp]
    have h2 : Ideal.cmp .oeq (a : EReal) (a : EReal) = 1#1 := by simp [Ideal.cmp]
    rw [h1, h2, if_neg (lt_irrefl _)]
    simp [IntOp.ori, IntOp.andi, Scalar.select]
  · have h1 : Ideal.cmp .ogt (a : EReal) (b : EReal) = 1#1 := by simp [Ideal.cmp, h]
    have h2 : Ideal.cmp .oeq (a : EReal) (b : EReal) = 0#1 := by simp [Ideal.cmp, h.ne']
    rw [h1, h2, if_neg h.not_gt]
    simp [IntOp.ori, IntOp.andi, Scalar.select]

theorem symm_ix1 (n : Fin 3) : S3.rowMajor.symm n = ix1 n :=
  (Equiv.symm_apply_eq S3.rowMajor).2 (Fin.ext (Shape.rowMajor_val_one (ix1 n)).symm)

theorem fiber_three {α β : Type} (x : S3.Idx → α) (y : S3.Idx → β) (h : S3.ReducesTo [0] S_) (j : S_.Idx) :
    Host.argReduceFiber x y h j = [(x (ix1 0), y (ix1 0)), (x (ix1 1), y (ix1 1)), (x (ix1 2), y (ix1 2))] := by
  have hs : Subsingleton S_.Idx := ⟨fun a b => funext fun i => i.elim0⟩
  unfold Host.argReduceFiber
  rw [List.filter_eq_self.2 fun _ _ => decide_eq_true (Subsingleton.elim _ _)]
  simp only [← symm_ix1]
  rfl

/-- The reference's arg-max reduction at three real numbers. -/
theorem argmax_first (x : S3.Idx → EReal) (z : Fin 3 → ℝ) (hx : ∀ r, x (ix1 r) = (z r : EReal)) (h : S3.ReducesTo [0] S_) (hu : 0 < S_.numel) (j : S_.Idx) :
    (Host.argReduce (F := Ideal) (φ := .f32) reducer_argmax_f32_i32 x (iotaInDim S3 32 0) (constant S_ .f32 0xFF800000#32) (constantI S_ 32 0#32) h hu j).2
      = first z := by
  rw [Ideal.argReduce_eq_reduce2, Host.reduce2_eq_foldl_fiber, fiber_three, hx, hx, hx]
  have hb : (constant (F := Ideal) S_ .f32 0xFF800000#32) (Shape.Idx.first hu) = (⊥ : EReal) := by
    show Ideal.ofBits .f32 0xFF800000#32 = ⊥
    simp [Ideal.ofBits, Ideal.ieee]
  rw [hb]
  show (reducer_argmax_f32_i32 (F := Ideal) (reducer_argmax_f32_i32 (F := Ideal) (reducer_argmax_f32_i32 (F := Ideal) ((⊥ : EReal), 0#32) ((z 0 : EReal), 0#32))
    ((z 1 : EReal), 1#32)) ((z 2 : EReal), 2#32)).2 = _
  rw [step_init, step_real _ _ (by decide)]
  unfold first
  by_cases h01 : z 0 < z 1
  · rw [if_pos h01, step_real _ _ (by decide), if_pos h01]
    by_cases h12 : z 1 < z 2
    · rw [if_pos h12, if_pos ⟨h01.trans h12, h12⟩]
    · rw [if_neg h12, if_neg fun q => h12 q.2]
  · rw [if_neg h01, step_real _ _ (by decide), if_neg h01]
    by_cases h02 : z 0 < z 2
    · rw [if_pos h02, if_pos ⟨h02, (not_lt.1 h01).trans_lt h02⟩]
    · rw [if_neg h02, if_neg fun q => h02 q.1]

end

end Cert.Proof.Values

end
-- ==== Proof.Soft.lean ====
/-
  The reference's float part: the scores, and the logarithm of their softmax, which at real scores subtracts one number from all.
-/
module

public import proofs.«01_k».proof.Proof.Values

@[expose] public section

set_option maxRecDepth 16384

noncomputable section

namespace Cert.Proof.Soft

open Cert.DrawnIdeal Cert.DrawnIdeal.Gen Cert.DrawnIdeal.Facts
open Idealize.ShloMosaic Cert.Proof.Values

/-- The three scores of the router. -/
def logits (X : FVec Ideal S16x16 .f32) (W : FVec Ideal S3x256 .f32) (b : FVec Ideal S3 .f32) : FVec Ideal S3 .f32 :=
  addf (Host.dotGeneral dot_S3x256_S256_S3_1_0_0_n_n_n none W (shapeCast S256 X shapeCasts_S16x16_S256)) b

/-- The logarithm of the softmax. -/
def logProb (l : FVec Ideal S3 .f32) : FVec Ideal S3 .f32 :=
  let e : FVec Ideal S3 .f32 := Host.exp (subf l (broadcastInDim S3 ![0] bcast_S1_S3_0 (broadcastInDim S1 ![] bcast_S_S1
    (maximumf (constant S_ .f32 0xFF800000#32) (Host.reduce FloatOps.maximumf l (constant S_ .f32 0xFF800000#32) reducesTo_S3_S_d0 h_S_)))))
  Host.log (Host.divf e (broadcastInDim S3 ![0] bcast_S1_S3_0 (broadcastInDim S1 ![] bcast_S_S1
    (Host.reduceAdd e (constant S_ .f32 0x00000000#32) reducesTo_S3_S_d0 h_S_))))

theorem logits_apply (X : FVec Ideal S16x16 .f32) (W : FVec Ideal S3x256 .f32) (b : FVec Ideal S3 .f32) (r : Fin 3) :
    logits X W b (ix1 r) = (∑ k : Fin 256, W (ix2 r k) * X (ix2 ⟨k.val / 16, by omega⟩ ⟨k.val % 16, by omega⟩)) + b (ix1 r) := by
  pointwise [logits]

theorem ofBits_bot : Ideal.ofBits .f32 0xFF800000#32 = (⊥ : EReal) := by simp [Ideal.ofBits, Ideal.ieee]

/-- The greatest of three real numbers, folded from `-∞`, is a real number. -/
theorem fold_max_real (z : Fin 3 → ℝ) :
    max (⊥ : EReal) (Finset.fold max (⊥ : EReal) (fun k => ((z k : ℝ) : EReal)) (Finset.univ : Finset (Fin 3)))
      = ((max (z 0) (max (z 1) (z 2)) : ℝ) : EReal) := by
  rw [show (Finset.univ : Finset (Fin 3)) = {0, 1, 2} from rfl]
  rw [Finset.fold_insert (by decide), Finset.fold_insert (by decide), Finset.fold_singleton]
  simp only [bot_le, sup_of_le_right, sup_of_le_left]
  rw [EReal.coe_strictMono.monotone.map_max, EReal.coe_strictMono.monotone.map_max]

theorem logProb_real (l : FVec Ideal S3 .f32) (z : Fin 3 → ℝ) (hl : ∀ r, l (ix1 r) = (z r : EReal)) :
    ∃ c : ℝ, ∀ r, logProb l (ix1 r) = ((z r - c : ℝ) : EReal) := by
  have hS : 0 < ∑ k : Fin 3, Real.exp (z k - max (z 0) (max (z 1) (z 2))) := Finset.sum_pos (fun k _ => Real.exp_pos _) ⟨0, Finset.mem_univ _⟩
  refine ⟨max (z 0) (max (z 1) (z 2)) + Real.log (∑ k : Fin 3, Real.exp (z k - max (z 0) (max (z 1) (z 2)))), fun r => ?_⟩
  pointwise [logProb]
  simp only [hl, ofBits_bot, fold_max_real, ← EReal.coe_sub, exp_real, sum_real]
  rw [div_real _ hS, log_real (div_pos (Real.exp_pos _) hS), Real.log_div (Real.exp_pos _).ne' hS.ne', Real.log_exp, sub_sub]

end Cert.Proof.Soft

end
-- ==== Proof.Scores.lean ====
/-
  The kernel's three sums at real inputs: bias, draw and the products of a row of weights with the image.
-/
module

public import proofs.«01_k».proof.Proof.Run
public import proofs.«01_k».proof.Proof.Soft
public import proofs.«01_k».proof.Proof.Gen.Pre_finite

@[expose] public section

noncomputable section

namespace Cert.Proof.Scores

open Cert.KernelIdeal Cert.KernelIdeal.Gen
open Idealize.ShloMosaic Cert.Proof.Values
open Cert.Proof.Route (wordAt tripOf sumsAt pick routed)

/-- The draw's three words as real numbers. -/
def noise : Fin 3 → ℝ
  | 0 => 11210314 / 33554432
  | 1 => 15972236 / 16777216
  | 2 => 12172383 / 16777216

theorem noise_zero : Ideal.ofBits .f32 0x3EAB0E4A#32 = (noise 0 : EReal) := by
  simp [noise, Ideal.ofBits, Ideal.ieee, -EReal.coe_mul]
  norm_num

theorem noise_one : Ideal.ofBits .f32 0x3F73B78C#32 = (noise 1 : EReal) := by
  simp [noise, Ideal.ofBits, Ideal.ieee, -EReal.coe_mul]
  norm_num

theorem noise_two : Ideal.ofBits .f32 0x3F39BC5F#32 = (noise 2 : EReal) := by
  simp [noise, Ideal.ofBits, Ideal.ieee, -EReal.coe_mul]
  norm_num

/-- The table of the draw, read. -/
theorem noise_table (r : Fin 3) : Ideal.ofBits .f32 (Cert.DrawnIdeal.lit0 r) = (noise r : EReal) := by
  fin_cases r
  · exact noise_zero
  · exact noise_one
  · exact noise_two

/-- The inputs are the real numbers `x`, `w`, `b`. -/
structure Reals (xs : S256.Idx → EReal) (ws : S768.Idx → EReal) (bs : S3.Idx → EReal) (x : ℕ → ℝ) (w : Fin 3 → ℕ → ℝ) (b : Fin 3 → ℝ) : Prop where
  hx : ∀ i (h : i < 256), xs (ix1 ⟨i, h⟩) = (x i : EReal)
  hw : ∀ (r : Fin 3) i (h : 256 * r.val + i < 768), i < 256 → ws (ix1 ⟨256 * r.val + i, h⟩) = (w r i : EReal)
  hb : ∀ r, bs (ix1 r) = (b r : EReal)

variable {xs : S256.Idx → EReal} {ws : S768.Idx → EReal} {bs : S3.Idx → EReal} {x : ℕ → ℝ} {w : Fin 3 → ℕ → ℝ} {b : Fin 3 → ℝ}

theorem wordAt_eq (n : ℕ) (f : (⟨1, ![n]⟩ : Shape).Idx → Ideal .f32) (i : ℕ) (h : i < n) : wordAt n f i = f (ix1 ⟨i, h⟩) := by
  unfold wordAt
  rw [dif_pos h]
  refine congrArg f (funext fun a => ?_)
  match a with
  | 0 => rfl

theorem word_x (H : Reals xs ws bs x w b) (i : ℕ) (h : i < 256) : wordAt (F := Ideal) 256 xs i = (x i : EReal) := by
  rw [wordAt_eq 256 xs i h, H.hx]

theorem word_w (H : Reals xs ws bs x w b) (r : Fin 3) (i : ℕ) (h : i < 256) : wordAt (F := Ideal) 768 ws (256 * r.val + i) = (w r i : EReal) := by
  rw [wordAt_eq 768 ws _ (by omega), H.hw r i _ h]

theorem word_b (H : Reals xs ws bs x w b) (r : Fin 3) : wordAt (F := Ideal) 3 bs r.val = (b r : EReal) := by
  rw [wordAt_eq 3 bs _ r.isLt]; exact H.hb r

/-- The score of row `r` over the first `n` pixels. -/
def part (x : ℕ → ℝ) (w : Fin 3 → ℕ → ℝ) (b : Fin 3 → ℝ) (n : ℕ) (r : Fin 3) : ℝ := b r + noise r + ∑ i ∈ Finset.range n, w r i * x i

theorem part_four (n : ℕ) (r : Fin 3) :
    part x w b (4 * (n + 1)) r = part x w b (4 * n) r + w r (4 * n + 0) * x (4 * n + 0) + w r (4 * n + 1) * x (4 * n + 1)
      + w r (4 * n + 2) * x (4 * n + 2) + w r (4 * n + 3) * x (4 * n + 3) := by
  unfold part
  rw [show 4 * (n + 1) = 4 * n + 1 + 1 + 1 + 1 by ring, Finset.sum_range_succ, Finset.sum_range_succ, Finset.sum_range_succ, Finset.sum_range_succ]
  ring_nf

theorem tripOf_real (H : Reals xs ws bs x w b) (k : ℕ) (hk : k < 64) :
    tripOf (F := Ideal) xs ws k ((part x w b (4 * k) 0 : EReal), (part x w b (4 * k) 1 : EReal), (part x w b (4 * k) 2 : EReal))
      = ((part x w b (4 * (k + 1)) 0 : EReal), (part x w b (4 * (k + 1)) 1 : EReal), (part x w b (4 * (k + 1)) 2 : EReal)) := by
  have h0 := word_x H (4 * k + 0) (by omega)
  have h1 := word_x H (4 * k + 1) (by omega)
  have h2 := word_x H (4 * k + 2) (by omega)
  have h3 := word_x H (4 * k + 3) (by omega)
  have w00 := word_w H 0 (4 * k + 0) (by omega)
  have w01 := word_w H 0 (4 * k + 1) (by omega)
  have w02 := word_w H 0 (4 * k + 2) (by omega)
  have w03 := word_w H 0 (4 * k + 3) (by omega)
  have w10 := word_w H 1 (4 * k + 0) (by omega)
  have w11 := word_w H 1 (4 * k + 1) (by omega)
  have w12 := word_w H 1 (4 * k + 2) (by omega)
  have w13 := word_w H 1 (4 * k + 3) (by omega)
  have w20 := word_w H 2 (4 * k + 0) (by omega)
  have w21 := word_w H 2 (4 * k + 1) (by omega)
  have w22 := word_w H 2 (4 * k + 2) (by omega)
  have w23 := word_w H 2 (4 * k + 3) (by omega)
  simp only [Fin.val_zero, Fin.val_one, Fin.val_two] at w00 w01 w02 w03 w10 w11 w12 w13 w20 w21 w22 w23
  unfold tripOf
  simp only [h0, h1, h2, h3, w00, w01, w02, w03, w10, w11, w12, w13, w20, w21, w22, w23]
  rw [part_four, part_four, part_four]
  simp only [EReal.coe_add, EReal.coe_mul]
  rfl

theorem sumsAt_real (H : Reals xs ws bs x w b) (k : ℕ) (hk : k ≤ 64) :
    sumsAt (F := Ideal) xs ws bs k = ((part x w b (4 * k) 0 : EReal), (part x w b (4 * k) 1 : EReal), (part x w b (4 * k) 2 : EReal)) := by
  induction k with
  | zero =>
    have b0 := word_b H 0
    have b1 := word_b H 1
    have b2 := word_b H 2
    simp only [Fin.val_zero, Fin.val_one, Fin.val_two] at b0 b1 b2
    show (k0_pay1 (F := Ideal) (wordAt (F := Ideal) 3 bs 0), k0_pay2 (F := Ideal) (wordAt (F := Ideal) 3 bs 1), k0_pay3 (F := Ideal) (wordAt (F := Ideal) 3 bs 2)) = _
    rw [b0, b1, b2]
    simp only [part, Nat.mul_zero, Finset.range_zero, Finset.sum_empty, add_zero, EReal.coe_add, ← noise_zero, ← noise_one, ← noise_two]
    rfl
  | succ k ih =>
    show tripOf (F := Ideal) xs ws k (sumsAt (F := Ideal) xs ws bs k) = _
    rw [ih (by omega), tripOf_real H k (by omega)]

theorem trips_eq : k0_t1_loop.trips = 64 := by decide

theorem pick_real (z : Fin 3 → ℝ) : pick (F := Ideal) ((z 0 : EReal), (z 1 : EReal), (z 2 : EReal)) = first z := by
  show Scalar.select (Ideal.cmp .ogt (z 2 : EReal) (max (z 0 : EReal) (z 1 : EReal))) 2#32
    (Scalar.select (Ideal.cmp .ogt (z 1 : EReal) (z 0 : EReal)) 1#32 0#32) = _
  have h2 : Ideal.cmp .ogt (z 2 : EReal) (max (z 0 : EReal) (z 1 : EReal)) = BitVec.ofBool (decide (z 0 < z 2 ∧ z 1 < z 2)) := by
    simp [Ideal.cmp]
  have h1 : Ideal.cmp .ogt (z 1 : EReal) (z 0 : EReal) = BitVec.ofBool (decide (z 0 < z 1)) := by
    simp [Ideal.cmp]
  rw [h1, h2]
  unfold first
  by_cases a : z 0 < z 2 ∧ z 1 < z 2 <;> by_cases c : z 0 < z 1 <;> simp [a, c, Scalar.select]

theorem routed_real (H : Reals xs ws bs x w b) : routed (F := Ideal) xs ws bs = first (part x w b 256) := by
  unfold routed
  rw [trips_eq, sumsAt_real H 64 le_rfl, ← pick_real]

end Cert.Proof.Scores

end
-- ==== Proof.Drawn.lean ====
/-
  The run of the reference with the draw evaluated beforehand: what it returns, as one term over its arguments.
-/
module

public import proofs.«01_k».proof.Defs
public import proofs.«01_k».proof.Proof.Gen.DrawnIdeal
public import Idealize.ShloMosaic.Lib.Claim
public import Idealize.ShloMosaic.Lib.Quiescent
public import Idealize.ShloMosaic.Lib.StableHlo.RunHlo
public import Idealize.ShloMosaic.Lib.StableHlo.RunRead
public import proofs.«01_k».proof.Proof.Scores

@[expose] public section

noncomputable section

namespace Cert.Proof.Drawn

open Cert.DrawnIdeal Cert.DrawnIdeal.Gen
open Idealize.ShloMosaic Idealize.SL.Sem
open Cert.Proof.Values Cert.Proof.Soft Cert.Proof.Scores
open Cert.DrawnIdeal.Facts

variable (m : (ℓ : Loc nD τ sig) → Buf (Elt Ideal) ℓ) (ρ : Dev nD → PrngReg)

/-- The index the reference returns, from its scores plus a draw. -/
def choice (l : FVec Ideal S3 .f32) : IVec S1 32 :=
  shapeCast S1 (fun j => (Host.argReduce reducer_argmax_f32_i32 l (iotaInDim S3 32 0) (constant S_ .f32 0xFF800000#32) (constantI S_ 32 0#32)
    reducesTo_S3_S_d0 h_S_ j).2) shapeCasts_S_S1

theorem choice_real (l : FVec Ideal S3 .f32) (z : Fin 3 → ℝ) (h : ∀ r, l (ix1 r) = (z r : EReal)) : choice l = fun _ => first z :=
  funext fun _ => argmax_first l z h _ _ _

/-- What the reference returns. -/
def drawn (X : FVec Ideal S16x16 .f32) (W : FVec Ideal S3x256 .f32) (b : FVec Ideal S3 .f32) : IVec S1 32 :=
  choice (addf (logProb (logits X W b)) fun i => FloatOps.ofBits .f32 (lit0 (S3.rowMajor i)))

theorem run_main : θ_run (defs (F := Ideal)) (onTc (τ := τ) (main (F := Ideal))) ⟨m, fun _ => 0, ρ⟩ (fun r => (∀ c : Dev nD,
    r.2.mem ((c.tc : Thread nD τ).loc main_v16)
      = drawn (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) := by
  refine θ_run_mono (Q := fun r => ∀ c : Dev nD,
    r.2.mem ((c.tc : Thread nD τ).loc main_v16)
      = drawn (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) ?_
    fun r h => ⟨h, sem_eq_zero_of_no_sems (by decide) r.2⟩
  hlo_run
  rfl

/-- At real inputs the reference returns the index of the greatest score, the first of equal ones. -/
theorem drawn_real {xs : FVec Ideal S16x16 .f32} {ws : FVec Ideal S3x256 .f32} {bs : FVec Ideal S3 .f32} {x : ℕ → ℝ} {w : Fin 3 → ℕ → ℝ} {b : Fin 3 → ℝ}
    (hl : ∀ r, logits xs ws bs (ix1 r) = ((b r + ∑ i ∈ Finset.range 256, w r i * x i : ℝ) : EReal)) :
    drawn xs ws bs = fun _ => first (part x w b 256) := by
  obtain ⟨c, hc⟩ := logProb_real _ _ hl
  rw [← first_shift (part x w b 256) c]
  refine choice_real _ _ fun r => ?_
  have h : (FloatOps.ofBits .f32 (lit0 (S3.rowMajor (ix1 r))) : Ideal .f32) = (noise r : EReal) := by
    have hr : S3.rowMajor (ix1 r) = r := Fin.ext (Shape.rowMajor_val_one (ix1 r))
    rw [hr]; exact noise_table r
  show logProb (logits xs ws bs) (ix1 r) + FloatOps.ofBits .f32 (lit0 (S3.rowMajor (ix1 r))) = _
  rw [h, hc, ← EReal.coe_add]
  congr 1
  unfold part
  ring

end Cert.Proof.Drawn

end
-- ==== Proof.Inputs.lean ====
/-
  The preconditions read: every element of the three arguments is a real number; the arguments as the real numbers they are.
-/
module

public import proofs.«01_k».proof.Proof.Scores
public import proofs.«01_k».proof.Proof.Gen.Pre_finite

@[expose] public section

set_option maxRecDepth 16384

noncomputable section

namespace Cert.Proof.Inputs

open Cert.DrawnIdeal Cert.DrawnIdeal.Gen
open Idealize.ShloMosaic Cert.Proof.Values Cert.Proof.Soft Cert.Proof.Scores

/-- Every element of the arguments is a real number. -/
structure AllReal (X : FVec Ideal S16x16 .f32) (W : FVec Ideal S3x256 .f32) (b : FVec Ideal S3 .f32) : Prop where
  hx : ∀ i, (((X i : EReal).toReal : ℝ) : EReal) = X i
  hw : ∀ i, (((W i : EReal).toReal : ℝ) : EReal) = W i
  hb : ∀ i, (((b i : EReal).toReal : ℝ) : EReal) = b i

theorem real_of_olt {x : EReal} (h : Ideal.cmp .olt (max x (-x)) (Ideal.ofBits .f32 0x7F800000#32) = 1#1) : ((x.toReal : ℝ) : EReal) = x := by
  refine real_of_abs_lt ?_
  have ht : Ideal.ofBits .f32 0x7F800000#32 = (⊤ : EReal) := by simp [Ideal.ofBits, Ideal.ieee]
  rw [ht] at h
  by_contra hn
  have hf : Ideal.cmp .olt (max x (-x)) (⊤ : EReal) = 0#1 := by
    show BitVec.ofBool (decide (max x (-x) < ⊤)) = 0#1
    rw [decide_eq_false hn]; rfl
  rw [hf] at h
  exact absurd h (by decide)

instance : Subsingleton Cert.Pre_finite.S_.Idx := ⟨fun a b => funext fun i => i.elim0⟩

theorem allReal_of_finite (X : FVec Ideal S16x16 .f32) (W : FVec Ideal S3x256 .f32) (b : FVec Ideal S3 .f32)
    (h : Cert.Pre_finite.fn (F := Ideal) X W b = fun _ => 1#1) : AllReal X W b := by
  have h0 := congrFun h (fun i => i.elim0)
  unfold Cert.Pre_finite.fn at h0
  obtain ⟨h12, h3⟩ := IntOp.andi_eq_one.1 h0
  obtain ⟨h1, h2⟩ := IntOp.andi_eq_one.1 h12
  exact ⟨fun i => real_of_olt (Host.reduce_andi_all _ _ _ _ _ h1 i), fun i => real_of_olt (Host.reduce_andi_all _ _ _ _ _ h2 i),
    fun i => real_of_olt (Host.reduce_andi_all _ _ _ _ _ h3 i)⟩

/-- The image, the weights and the bias as real numbers. -/
def xOf (X : FVec Ideal S16x16 .f32) (i : ℕ) : ℝ := EReal.toReal (X (ix2 ⟨i / 16 % 16, Nat.mod_lt _ (by decide)⟩ ⟨i % 16, Nat.mod_lt _ (by decide)⟩))
def wOf (W : FVec Ideal S3x256 .f32) (r : Fin 3) (i : ℕ) : ℝ := EReal.toReal (W (ix2 r ⟨i % 256, Nat.mod_lt _ (by decide)⟩))
def bOf (b : FVec Ideal S3 .f32) (r : Fin 3) : ℝ := EReal.toReal (b (ix1 r))

variable {X : FVec Ideal S16x16 .f32} {W : FVec Ideal S3x256 .f32} {b : FVec Ideal S3 .f32}

theorem xOf_eq (H : AllReal X W b) {i : ℕ} (h : i < 256) : (xOf X i : EReal) = X (ix2 ⟨i / 16, by omega⟩ ⟨i % 16, by omega⟩) := by
  unfold xOf
  rw [H.hx]
  exact congrArg X (congrArg (fun a : Fin 16 => ix2 a ⟨i % 16, by omega⟩) (Fin.ext (show i / 16 % 16 = i / 16 by omega)))

theorem wOf_eq (H : AllReal X W b) (r : Fin 3) (i : Fin 256) : (wOf W r i.val : EReal) = W (ix2 r i) := by
  unfold wOf
  rw [H.hw]
  exact congrArg W (congrArg (fun a : Fin 256 => ix2 r a) (Fin.ext (show i.val % 256 = i.val by omega)))

theorem reals (H : AllReal X W b) (hX : S16x16.ShapeCasts S256) (hW : S3x256.ShapeCasts Cert.KernelIdeal.S768) :
    Reals (shapeCast S256 X hX) (shapeCast Cert.KernelIdeal.S768 W hW) b (xOf X) (wOf W) (bOf b) where
  hx i h := by
    pointwise
    exact (xOf_eq H h).symm
  hw r i h hi := by
    pointwise
    rw [show (wOf W r i : EReal) = W (ix2 r ⟨i, hi⟩) from wOf_eq H r ⟨i, hi⟩]
    have h1 : (256 * r.val + i) / 256 = r.val := by omega
    have h2 : (256 * r.val + i) % 256 = i := by omega
    refine congrArg W ?_
    rw [ix2_inj]
    exact ⟨Fin.ext h1, Fin.ext h2⟩
  hb r := (H.hb _).symm

theorem logits_real (H : AllReal X W b) (r : Fin 3) :
    logits X W b (ix1 r) = ((bOf b r + ∑ i ∈ Finset.range 256, wOf W r i * xOf X i : ℝ) : EReal) := by
  rw [logits_apply, add_comm, EReal.coe_add, ← sum_real, Finset.sum_range]
  refine congrArg₂ (fun p q : EReal => p + q) (H.hb (ix1 r)).symm (Finset.sum_congr rfl fun k _ => ?_)
  rw [EReal.coe_mul, wOf_eq H, xOf_eq H k.isLt]

end Cert.Proof.Inputs

end
-- ==== Proof.Claims.lean ====
/-
  The claims about the kernel and the reference with its draw evaluated beforehand.
-/
module

public import proofs.«01_k».proof.Proof.Drawn
public import proofs.«01_k».proof.Proof.Inputs
public import proofs.«01_k».proof.Proof.Gen.Kernel

@[expose] public section

noncomputable section

namespace Cert.Proof

open Idealize.ShloMosaic Idealize.SL.Sem
open Cert.Kernel.Gen Cert.KernelIdeal.Gen Cert.DrawnIdeal.Gen
open Cert.Proof.Values Cert.Proof.Soft Cert.Proof.Scores Cert.Proof.Inputs

/-- The kernel's frame: its run over words is its run over any values. -/
theorem frame_kernel : Cert.quiescent_Kernel := fun m ρ _ =>
  (θ_run Cert.KernelIdeal.defs _ _).mono (fun _ h => ⟨fun c => (h.1 c).2, h.2⟩) (Route.run_main (F := Bits) m ρ)

theorem frame_ideal : Cert.quiescent_KernelIdeal := fun m ρ _ =>
  (θ_run Cert.KernelIdeal.defs _ _).mono (fun _ h => ⟨fun c => (h.1 c).2, h.2⟩) (Route.run_main (F := Ideal) m ρ)

theorem frame_drawn : Cert.quiescent_DrawnIdeal := fun m ρ _ =>
  (θ_run Cert.DrawnIdeal.defs _ _).mono (fun _ h => ⟨fun c => (h.1 c).2, h.2⟩) (Drawn.run_main m ρ)

/-- At finite inputs the kernel and the reference return one index. -/
theorem answer_eq {X : FVec Ideal Cert.DrawnIdeal.S16x16 .f32} {W : FVec Ideal Cert.DrawnIdeal.S3x256 .f32} {b : FVec Ideal Cert.DrawnIdeal.S3 .f32}
    (H : AllReal X W b) (hX : Cert.DrawnIdeal.S16x16.ShapeCasts Cert.DrawnIdeal.S256) (hW : Cert.DrawnIdeal.S3x256.ShapeCasts Cert.KernelIdeal.S768) :
    Route.routed (F := Ideal) (shapeCast Cert.DrawnIdeal.S256 X hX) (shapeCast Cert.KernelIdeal.S768 W hW) b
      = first (part (xOf X) (wOf W) (bOf b) 256) := routed_real (reals H hX hW)

theorem value_drawn : Cert.algebraic_KernelIdeal_DrawnIdeal_pre_finite := by
  intro m ρ m' ρ' hpre hagree
  refine ⟨fun c _ => Route.answer m c, (θ_run Cert.KernelIdeal.defs _ _).mono (fun _ h c => h.1 c) (Route.run_main (F := Ideal) m ρ),
    (θ_run Cert.DrawnIdeal.defs _ _).mono (fun r h c => ?_) (Drawn.run_main m' ρ')⟩
  refine ⟨?_, (h.1 c).2⟩
  have H := allReal_of_finite _ _ _ (hpre c)
  refine (h.1 c).1.trans ?_
  rw [(hagree c).1, (hagree c).2.1, (hagree c).2.2]
  refine (Drawn.drawn_real (logits_real H)).trans ?_
  exact funext fun _ => (answer_eq H _ _).symm

end Cert.Proof

end
-- ==== Proof.Line.lean ====
/-
  Straight lines of host operations, piece by piece: what a piece makes true of the buffers' contents, and how pieces join.
-/
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunHlo
public import Idealize.ShloMosaic.Lib.StableHlo.RunRead
public import proofs.«01_k».proof.Proof.Values

@[expose] public section

noncomputable section

namespace Cert.Proof.Line

open Cert.ReferenceIdeal Cert.ReferenceIdeal.Gen
open Idealize.ShloMosaic Idealize.SL.Sem
open Cert.ReferenceIdeal.Facts

/-- A program of the reference's host. -/
abbrev HostProg : Type _ := Prog (TpuEff nD τ sig (Elt Ideal) (Pipeline.Sig Λ₀ (Fin 0) fun p => (pcfgs (F := Ideal) p).Adm) .tc) PUnit

/-- The contents of all the host's buffers. -/
abbrev Contents : Type _ := Valuation τ sig (Elt Ideal)

/-- `p` is a straight line of operations on the device's own buffers, and it takes contents with `pre` to contents with `post`. -/
def Runs (p : HostProg) (pre post : Contents → Prop) : Prop :=
  ∃ ops : List (HloOp τ sig (Elt Ideal)), StableHlo.IsSeq p ops ∧ (ops.Forall fun op => op.bufs ⊆ StableHlo.tcRefs τ sig) ∧ (∀ op ∈ ops, op.fresh = ∅)
    ∧ ∀ V, pre V → post (StableHlo.after ops V)

/-- One piece after another. -/
theorem Runs.andThen {p q : HostProg} {pre mid post : Contents → Prop} (hp : Runs p pre mid) (hq : Runs q mid post) :
    Runs (p >>= fun _ => q) pre post := by
  obtain ⟨a, ha, sa, fa, ea⟩ := hp
  obtain ⟨b, hb, sb, fb, eb⟩ := hq
  refine ⟨a ++ b, ?_, List.forall_append.mpr ⟨sa, sb⟩, fun op h => (List.mem_append.mp h).elim (fa op) (fb op), fun V hV => ?_⟩
  · unfold StableHlo.IsSeq at ha hb ⊢
    rw [ha, hb, StableHlo.seq_append]
  · rw [StableHlo.after_append]
    exact eb _ (ea V hV)

/-- `p` is the operations `ops` and then `k`. -/
def LeadsTo (p : HostProg) (ops : List (HloOp τ sig (Elt Ideal))) (k : HostProg) : Prop := p = StableHlo.seq ops >>= fun _ => k

theorem LeadsTo.here (k : HostProg) : LeadsTo k [] k := rfl

theorem LeadsTo.step {op : HloOp τ sig (Elt Ideal)} {q k : HostProg} {ops : List (HloOp τ sig (Elt Ideal))} (h : LeadsTo q ops k) :
    LeadsTo ((hlo rfl op fun _ => .ret (⟨⟩ : PUnit)) >>= fun _ => q) (op :: ops) k := by
  unfold LeadsTo at h ⊢
  rw [h]; rfl

/-- Operations, and then a piece. -/
theorem Runs.first {p k : HostProg} {ops : List (HloOp τ sig (Elt Ideal))} {pre mid post : Contents → Prop} (h : LeadsTo p ops k)
    (hs : ops.Forall fun op => op.bufs ⊆ StableHlo.tcRefs τ sig) (hf : ∀ op ∈ ops, op.fresh = ∅)
    (he : ∀ V, pre V → mid (StableHlo.after ops V)) (hk : Runs k mid post) : Runs p pre post := by
  have h' : p = StableHlo.seq ops >>= fun _ => k := h
  rw [h']
  exact Runs.andThen ⟨ops, rfl, hs, hf, he⟩ hk

/-- A piece with stronger contents before it, and weaker after. -/
theorem Runs.weaken {p : HostProg} {pre pre' post post' : Contents → Prop} (hp : Runs p pre post) (h : ∀ V, pre' V → pre V) (h' : ∀ V, post V → post' V) :
    Runs p pre' post' := by
  obtain ⟨a, ha, sa, fa, ea⟩ := hp
  exact ⟨a, ha, sa, fa, fun V hV => h' _ (ea V (h V hV))⟩

/-- What the buffer of a value holds, at the value's type. -/
abbrev held {T : BufTy} (t : StableHlo.TRef sig T) (V : Contents) : T.Contents (Elt Ideal) := t.ofBuf (V (Proc.devRef .tc t.ref))

/-- What the pieces leave alone: the arguments, the logarithms `l` of the probabilities, and the two ends of the uniform's range. -/
structure Kept (x : FVec Ideal S16x16 .f32) (w : FVec Ideal S3x256 .f32) (b : FVec Ideal S3 .f32) (l : FVec Ideal S3 .f32) (V : Contents) : Prop where
  a0 : V (Proc.devRef .tc main_arg0) = x
  a1 : V (Proc.devRef .tc main_arg1) = w
  a2 : V (Proc.devRef .tc main_arg2) = b
  l : V (Proc.devRef .tc main_v20) = l
  lo : held main_call0_call0.v1 V = constant (F := Ideal) S1 .f32 0x00800000#32
  hi : held main_call0_call0.v2 V = constant (F := Ideal) S1 .f32 0x3F800000#32

/-- Three words. -/
def words (a b c : BitVec 32) : IVec S3 32 := fun i => ![a, b, c] (i 0)

/-- One word. -/
def word (a : BitVec 32) : IVec S_ 32 := fun _ => a

/-- Two arrays of three words are equal when they are at each index. -/
theorem words_ext {x y : IVec S3 32} (h : ∀ r : Fin 3, x (ix1 r) = y (ix1 r)) : x = y :=
  funext fun i => by rw [eq_ix1 i]; exact h _

theorem addi_words (a b c d e f : BitVec 32) : addi (words a b c) (words d e f) = words (a + d) (b + e) (c + f) :=
  words_ext fun r => by fin_cases r <;> rfl

theorem xori_words (a b c d e f : BitVec 32) : xori (words a b c) (words d e f) = words (a ^^^ d) (b ^^^ e) (c ^^^ f) :=
  words_ext fun r => by fin_cases r <;> rfl

theorem ori_words (a b c d e f : BitVec 32) : ori (words a b c) (words d e f) = words (a ||| d) (b ||| e) (c ||| f) :=
  words_ext fun r => by fin_cases r <;> rfl

theorem shli_words (a b c d : BitVec 32) (h : d.toNat < 32) : Host.shli (words a b c) (words d d d) = words (a <<< d) (b <<< d) (c <<< d) :=
  words_ext fun r => by fin_cases r <;> exact if_pos h

theorem shrui_words (a b c d : BitVec 32) (h : d.toNat < 32) : Host.shrui (words a b c) (words d d d) = words (a >>> d) (b >>> d) (c >>> d) :=
  words_ext fun r => by fin_cases r <;> exact if_pos h

theorem xori_word (a b : BitVec 32) : xori (word a) (word b) = word (a ^^^ b) := (rfl)

theorem constantI_word (a : BitVec 32) : constantI S_ 32 a = word a := (rfl)

theorem spread_word (a : BitVec 32) (dims : Fin S_.rank → Fin S3.rank) (h : S_.BroadcastsInDim S3 dims) :
    broadcastInDim (α := no_index (Elt Ideal .i32)) S3 dims h (word a) = words a a a :=
  words_ext fun r => by fin_cases r <;> rfl

end Cert.Proof.Line

end
-- ==== Proof.Threefry.lean ====
/-
  The hash that makes the reference's random words, at its key and counts: what each of its four parts leaves.
-/
module

public import proofs.«01_k».proof.Proof.Line

@[expose] public section

noncomputable section

namespace Cert.Proof.Threefry

open Cert.ReferenceIdeal Cert.ReferenceIdeal.Gen
open Idealize.ShloMosaic Idealize.SL.Sem
open Cert.Proof.Line
open Cert.ReferenceIdeal.Facts

/-- The buffers of the one call. -/
abbrev φ : fn_threefry2x32.Bufs := main_call0_call0_call0

/-- The first word of the key. -/
abbrev key0 : StableHlo.TRef sig ⟨S_, .i32⟩ := .of main_call0_call0_v4

/-- The second word of the key. -/
abbrev key1 : StableHlo.TRef sig ⟨S_, .i32⟩ := .of main_call0_call0_v6

/-- The counts' high words. -/
abbrev high : StableHlo.TRef sig ⟨S3, .i32⟩ := .of main_call0_call0_v13

/-- The counts' low words. -/
abbrev low : StableHlo.TRef sig ⟨S3, .i32⟩ := .of main_call0_call0_v12

variable {x : FVec Ideal S16x16 .f32} {w : FVec Ideal S3x256 .f32} {b : FVec Ideal S3 .f32} {l : FVec Ideal S3 .f32}

/-- The words of the key and of the counts, as the call finds them. -/
structure Before (x : FVec Ideal S16x16 .f32) (w : FVec Ideal S3x256 .f32) (b : FVec Ideal S3 .f32) (l : FVec Ideal S3 .f32) (V : Contents) : Prop extends Kept x w b l V where
  k0 : held key0 V = word 0
  k1 : held key1 V = word 42
  n1 : held high V = words 0 0 0
  n0 : held low V = words 0 1 2

/-- The words after the part of this name. -/
structure First (x : FVec Ideal S16x16 .f32) (w : FVec Ideal S3x256 .f32) (b : FVec Ideal S3 .f32) (l : FVec Ideal S3 .f32) (V : Contents) : Prop extends Kept x w b l V where
  k0 : held key0 V = word 0
  k1 : held key1 V = word 42
  k2 : held φ.v1 V = word 0x1bd11bf0
  p : held φ.v46 V = words 0x7f6f3043 0x9c156f66 0xcb64dd6a
  q : held φ.v47 V = words 0x75c6b75e 0x723f5883 0xffca2c79

/-- The words after the part of this name. -/
structure Second (x : FVec Ideal S16x16 .f32) (w : FVec Ideal S3x256 .f32) (b : FVec Ideal S3 .f32) (l : FVec Ideal S3 .f32) (V : Contents) : Prop extends Kept x w b l V where
  k0 : held key0 V = word 0
  k1 : held key1 V = word 42
  k2 : held φ.v1 V = word 0x1bd11bf0
  p : held φ.v88 V = words 0xb98484b 0xd9570f7d 0x58825b92
  q : held φ.v94 V = words 0x5316cb6f 0xe6edfb5c 0xf16e12b2

/-- The words after the part of this name. -/
structure Third (x : FVec Ideal S16x16 .f32) (w : FVec Ideal S3x256 .f32) (b : FVec Ideal S3 .f32) (l : FVec Ideal S3 .f32) (V : Contents) : Prop extends Kept x w b l V where
  k0 : held key0 V = word 0
  k1 : held key1 V = word 42
  k2 : held φ.v1 V = word 0x1bd11bf0
  p : held φ.v141 V = words 0x59389dee 0x7a2ac6a3 0xd333a907
  q : held φ.v142 V = words 0x15074def 0x24d4d2dd 0xf7d65b06

/-- The words after the part of this name. -/
structure Fourth (x : FVec Ideal S16x16 .f32) (w : FVec Ideal S3x256 .f32) (b : FVec Ideal S3 .f32) (l : FVec Ideal S3 .f32) (V : Contents) : Prop extends Kept x w b l V where
  p : held φ.v171 V = words 0x6d3e048f 0x3d7b32d 0x92fb20ea
  q : held φ.v175 V = words 0x1022172d 0xadd083f4 0xf38d913

theorem first : Runs (fn_threefry2x32.body_part0 key0 key1 high low φ) (Before x w b l) (First x w b l) := by
  refine ⟨_, by unfold fn_threefry2x32.body_part0; hlo_seq, by simp, ?_, fun V hV => ⟨⟨?_, ?_, ?_, ?_, ?_, ?_⟩, ?_, ?_, ?_, ?_, ?_⟩⟩
  · intro _ h; (repeat (cases h with | head => rfl | tail _ h => ?_)); exact nomatch h
  all_goals
    try unfold held
    after_reads_simp
    simp (disch := decide) only [StableHlo.TRef.ofBuf_toBuf, hV.a0, hV.a1, hV.a2, hV.l, hV.lo, hV.hi, hV.k0, hV.k1, hV.n1, hV.n0, spread_word, constantI_word, xori_word, addi_words, xori_words, ori_words, shli_words, shrui_words, BitVec.ofNat_eq_ofNat, BitVec.reduceAdd, BitVec.reduceXOr, BitVec.reduceOr, BitVec.reduceHShiftLeft, BitVec.reduceHShiftLeft', BitVec.reduceHShiftRight, BitVec.reduceHShiftRight']

theorem second : Runs (fn_threefry2x32.body_part1 key0 key1 high low φ) (First x w b l) (Second x w b l) := by
  refine ⟨_, by unfold fn_threefry2x32.body_part1; hlo_seq, by simp, ?_, fun V hV => ⟨⟨?_, ?_, ?_, ?_, ?_, ?_⟩, ?_, ?_, ?_, ?_, ?_⟩⟩
  · intro _ h; (repeat (cases h with | head => rfl | tail _ h => ?_)); exact nomatch h
  all_goals
    try unfold held
    after_reads_simp
    simp (disch := decide) only [StableHlo.TRef.ofBuf_toBuf, hV.a0, hV.a1, hV.a2, hV.l, hV.lo, hV.hi, hV.k0, hV.k1, hV.k2, hV.p, hV.q, spread_word, constantI_word, xori_word, addi_words, xori_words, ori_words, shli_words, shrui_words, BitVec.ofNat_eq_ofNat, BitVec.reduceAdd, BitVec.reduceXOr, BitVec.reduceOr, BitVec.reduceHShiftLeft, BitVec.reduceHShiftLeft', BitVec.reduceHShiftRight, BitVec.reduceHShiftRight']

theorem third : Runs (fn_threefry2x32.body_part2 key0 key1 high low φ) (Second x w b l) (Third x w b l) := by
  refine ⟨_, by unfold fn_threefry2x32.body_part2; hlo_seq, by simp, ?_, fun V hV => ⟨⟨?_, ?_, ?_, ?_, ?_, ?_⟩, ?_, ?_, ?_, ?_, ?_⟩⟩
  · intro _ h; (repeat (cases h with | head => rfl | tail _ h => ?_)); exact nomatch h
  all_goals
    try unfold held
    after_reads_simp
    simp (disch := decide) only [StableHlo.TRef.ofBuf_toBuf, hV.a0, hV.a1, hV.a2, hV.l, hV.lo, hV.hi, hV.k0, hV.k1, hV.k2, hV.p, hV.q, spread_word, constantI_word, xori_word, addi_words, xori_words, ori_words, shli_words, shrui_words, BitVec.ofNat_eq_ofNat, BitVec.reduceAdd, BitVec.reduceXOr, BitVec.reduceOr, BitVec.reduceHShiftLeft, BitVec.reduceHShiftLeft', BitVec.reduceHShiftRight, BitVec.reduceHShiftRight']

theorem fourth : Runs (fn_threefry2x32.body_part3 key0 key1 high low φ) (Third x w b l) (Fourth x w b l) := by
  refine ⟨_, by unfold fn_threefry2x32.body_part3; hlo_seq, by simp, ?_, fun V hV => ⟨⟨?_, ?_, ?_, ?_, ?_, ?_⟩, ?_, ?_⟩⟩
  · intro _ h; (repeat (cases h with | head => rfl | tail _ h => ?_)); exact nomatch h
  all_goals
    try unfold held
    after_reads_simp
    simp (disch := decide) only [StableHlo.TRef.ofBuf_toBuf, hV.a0, hV.a1, hV.a2, hV.l, hV.lo, hV.hi, hV.k0, hV.k1, hV.k2, hV.p, hV.q, spread_word, constantI_word, xori_word, addi_words, xori_words, ori_words, shli_words, shrui_words, BitVec.ofNat_eq_ofNat, BitVec.reduceAdd, BitVec.reduceXOr, BitVec.reduceOr, BitVec.reduceHShiftLeft, BitVec.reduceHShiftLeft', BitVec.reduceHShiftRight, BitVec.reduceHShiftRight']

/-- The whole hash. -/
theorem whole : Runs (fn_threefry2x32.body key0 key1 high low φ) (Before x w b l) (Fourth x w b l) :=
  first.andThen (second.andThen (third.andThen fourth))

end Cert.Proof.Threefry

end
-- ==== Proof.Gumbel.lean ====
/-
  The reference's draw: its key and counts, the uniform numbers that the hash gives, and their two logarithms.
-/
module

public import proofs.«01_k».proof.Proof.Threefry

@[expose] public section

noncomputable section

namespace Cert.Proof.Gumbel

open Cert.ReferenceIdeal Cert.ReferenceIdeal.Gen
open Idealize.ShloMosaic Idealize.SL.Sem
open Cert.Proof.Line Cert.Proof.Threefry
open Cert.ReferenceIdeal.Facts

variable {x : FVec Ideal S16x16 .f32} {w : FVec Ideal S3x256 .f32} {b : FVec Ideal S3 .f32} {l : FVec Ideal S3 .f32}

/-- The key, as two words. -/
def key : IVec S2 32 := fun i => ![0#32, 42#32] (i 0)

/-- The buffers of the uniform's one call. -/
abbrev υ : fn_uniform.Bufs := main_call0_call0

/-- The buffers of the draw's one call. -/
abbrev γ : fn_gumbel.Bufs := main_call0

/-- The key's buffer. -/
abbrev keyRef : StableHlo.TRef sig ⟨S2, .i32⟩ := .of main_v19

/-- Before the draw. -/
structure Start (x : FVec Ideal S16x16 .f32) (w : FVec Ideal S3x256 .f32) (b : FVec Ideal S3 .f32) (l : FVec Ideal S3 .f32) (V : Contents) : Prop where
  a0 : V (Proc.devRef .tc main_arg0) = x
  a1 : V (Proc.devRef .tc main_arg1) = w
  a2 : V (Proc.devRef .tc main_arg2) = b
  l : V (Proc.devRef .tc main_v20) = l
  k : held keyRef V = key

/-- Before the uniform: the two ends of its range are set. -/
structure Ends (x : FVec Ideal S16x16 .f32) (w : FVec Ideal S3x256 .f32) (b : FVec Ideal S3 .f32) (l : FVec Ideal S3 .f32) (V : Contents) : Prop
    extends Start x w b l V where
  one : held γ.cst V = constant (F := Ideal) S_ .f32 0x3F800000#32
  tiny : held γ.cst_0 V = constant (F := Ideal) S_ .f32 0x00800000#32

/-- The uniform numbers: the hash's words as the fractions of floats in [1, 2), moved onto the range. -/
def uniform : FVec Ideal S3 .f32 :=
  maximumf (broadcastInDim S3 ![0] bcast_S1_S3_0 (constant S1 .f32 0x00800000#32))
    (addf (mulf (subf (bitcastToFloat .f32 (words 0x3fbe8e09 0x3fd70398 0x3fcee1fc)) (broadcastInDim S3 ![] bcast_S_S3 (constant S_ .f32 0x3F800000#32)))
        (broadcastInDim S3 ![0] bcast_S1_S3_0 (subf (constant S1 .f32 0x3F800000#32) (constant S1 .f32 0x00800000#32))))
      (broadcastInDim S3 ![0] bcast_S1_S3_0 (constant S1 .f32 0x00800000#32)))

/-- The draw. -/
def draw : FVec Ideal S3 .f32 := Host.negf (Host.log (Host.negf (Host.log uniform)))

/-- After the uniform. -/
structure Uniform (x : FVec Ideal S16x16 .f32) (w : FVec Ideal S3x256 .f32) (b : FVec Ideal S3 .f32) (l : FVec Ideal S3 .f32) (V : Contents) : Prop where
  a0 : V (Proc.devRef .tc main_arg0) = x
  a1 : V (Proc.devRef .tc main_arg1) = w
  a2 : V (Proc.devRef .tc main_arg2) = b
  l : V (Proc.devRef .tc main_v20) = l
  u : held υ.v29 V = uniform

/-- After the draw. -/
structure Drawn (x : FVec Ideal S16x16 .f32) (w : FVec Ideal S3x256 .f32) (b : FVec Ideal S3 .f32) (l : FVec Ideal S3 .f32) (V : Contents) : Prop where
  a0 : V (Proc.devRef .tc main_arg0) = x
  a1 : V (Proc.devRef .tc main_arg1) = w
  a2 : V (Proc.devRef .tc main_arg2) = b
  l : V (Proc.devRef .tc main_v20) = l
  g : held γ.v4 V = draw

/-- The one word of an array of one. -/
theorem one_word (x : IVec S1 32) (h : S1.ShapeCasts S_) (k : BitVec 32) (e : x (ix1 0) = k) : shapeCast S_ x h = word k := by
  funext i
  refine Eq.trans (congrArg x (funext fun d => ?_)) e
  have : Subsingleton (Fin (S1.size d)) := by fin_cases d; exact inferInstanceAs (Subsingleton (Fin 1))
  exact Subsingleton.elim _ _

/-- The uniform's line: its two ends, the key's words and the counts; the hash; and the words made into numbers. -/
theorem uniform_runs : Runs (fn_uniform.body keyRef γ.cst γ.cst_0 υ) (Ends x w b l) (Uniform x w b l) := by
  unfold fn_uniform.body
  refine Runs.first (mid := Before x w b l) (by iterate 16 apply LeadsTo.step
                                                exact LeadsTo.here _) (by simp) ?_ (fun V hV => ?_) (Threefry.whole.andThen ?_)
  · intro _ h; (repeat (cases h with | head => rfl | tail _ h => ?_)); exact nomatch h
  · refine ⟨⟨?_, ?_, ?_, ?_, ?_, ?_⟩, ?_, ?_, ?_, ?_⟩
    all_goals
      try unfold held
      after_reads_simp
      simp (disch := decide) only [StableHlo.TRef.ofBuf_toBuf, hV.a0, hV.a1, hV.a2, hV.l, hV.k, hV.one, hV.tiny]
    · rfl
    · rfl
    · exact one_word _ shapeCasts_S1_S_ 0 rfl
    · exact one_word _ shapeCasts_S1_S_ 42 rfl
    · exact words_ext fun r => by fin_cases r <;> rfl
    · exact words_ext fun r => by fin_cases r <;> rfl
  · refine ⟨_, by hlo_seq, by simp, ?_, fun V hV => ⟨?_, ?_, ?_, ?_, ?_⟩⟩
    · intro _ h; (repeat (cases h with | head => rfl | tail _ h => ?_)); exact nomatch h
    all_goals
      try unfold held
      after_reads_simp
      simp (disch := decide) only [StableHlo.TRef.ofBuf_toBuf, hV.a0, hV.a1, hV.a2, hV.l, hV.lo, hV.hi, hV.p, hV.q, spread_word, constantI_word, xori_words, ori_words, shrui_words, BitVec.ofNat_eq_ofNat, BitVec.reduceXOr, BitVec.reduceOr, BitVec.reduceHShiftRight']
    rfl

/-- The draw's line. -/
theorem draw_runs : Runs (fn_gumbel.body keyRef γ) (Start x w b l) (Drawn x w b l) := by
  unfold fn_gumbel.body
  refine Runs.first (mid := Ends x w b l) (by iterate 2 apply LeadsTo.step
                                              exact LeadsTo.here _) (by simp) ?_ (fun V hV => ?_) (uniform_runs.andThen ?_)
  · intro _ h; (repeat (cases h with | head => rfl | tail _ h => ?_)); exact nomatch h
  · refine ⟨⟨?_, ?_, ?_, ?_, ?_⟩, ?_, ?_⟩
    all_goals
      try unfold held
      after_reads_simp
      simp (disch := decide) only [StableHlo.TRef.ofBuf_toBuf, hV.a0, hV.a1, hV.a2, hV.l, hV.k]
  · refine ⟨_, by hlo_seq, by simp, ?_, fun V hV => ⟨?_, ?_, ?_, ?_, ?_⟩⟩
    · intro _ h; (repeat (cases h with | head => rfl | tail _ h => ?_)); exact nomatch h
    all_goals
      try unfold held
      after_reads_simp
      simp (disch := decide) only [StableHlo.TRef.ofBuf_toBuf, hV.a0, hV.a1, hV.a2, hV.l, hV.u]
    rfl

end Cert.Proof.Gumbel

end
-- ==== Proof.Traced.lean ====
/-
  The run of the reference with its draw traced: what it returns, as one term over its arguments and the draw.
-/
module

public import proofs.«01_k».proof.Proof.Gumbel
public import proofs.«01_k».proof.Proof.Drawn

@[expose] public section

noncomputable section

namespace Cert.Proof.Traced

open Cert.ReferenceIdeal Cert.ReferenceIdeal.Gen
open Idealize.ShloMosaic Idealize.SL.Sem
open Cert.Proof.Line Cert.Proof.Gumbel
open Cert.Proof.Soft (logits logProb)
open Cert.Proof.Drawn (choice)
open Cert.ReferenceIdeal.Facts

/-- The arguments. -/
structure Args (x : FVec Ideal S16x16 .f32) (w : FVec Ideal S3x256 .f32) (b : FVec Ideal S3 .f32) (V : Contents) : Prop where
  a0 : V (Proc.devRef .tc main_arg0) = x
  a1 : V (Proc.devRef .tc main_arg1) = w
  a2 : V (Proc.devRef .tc main_arg2) = b

/-- What the reference returns. -/
def traced (x : FVec Ideal S16x16 .f32) (w : FVec Ideal S3x256 .f32) (b : FVec Ideal S3 .f32) : IVec S1 32 :=
  choice (addf draw (logProb (logits x w b)))

/-- After the sum of the draw and the logarithms. -/
structure Summed (x : FVec Ideal S16x16 .f32) (w : FVec Ideal S3x256 .f32) (b : FVec Ideal S3 .f32) (V : Contents) : Prop extends Args x w b V where
  s : held (.of main_v22 : StableHlo.TRef sig ⟨S3, .f32⟩) V = addf draw (logProb (logits x w b))

/-- After the arg-max. -/
structure Chosen (x : FVec Ideal S16x16 .f32) (w : FVec Ideal S3x256 .f32) (b : FVec Ideal S3 .f32) (V : Contents) : Prop extends Args x w b V where
  i : held main_call1.v1_1 V = fun j => (Host.argReduce Cert.DrawnIdeal.reducer_argmax_f32_i32 (addf draw (logProb (logits x w b))) (iotaInDim S3 32 0) (constant S_ .f32 0xFF800000#32)
    (constantI S_ 32 0#32) reducesTo_S3_S_d0 h_S_ j).2

/-- At the end. -/
structure Done (x : FVec Ideal S16x16 .f32) (w : FVec Ideal S3x256 .f32) (b : FVec Ideal S3 .f32) (V : Contents) : Prop extends Args x w b V where
  o : V (Proc.devRef .tc main_v24) = traced x w b

variable {x : FVec Ideal S16x16 .f32} {w : FVec Ideal S3x256 .f32} {b : FVec Ideal S3 .f32}

/-- The arg-max's line. -/
theorem choice_runs : Runs (fn_argmax.body (.of main_v22) main_call1) (Summed x w b) (Chosen x w b) := by
  unfold fn_argmax.body
  refine ⟨_, by hlo_seq, by simp, ?_, fun V hV => ⟨⟨?_, ?_, ?_⟩, ?_⟩⟩
  · intro _ h; (repeat (cases h with | head => rfl | tail _ h => ?_)); exact nomatch h
  all_goals
    try unfold held
    after_reads_simp
    simp (disch := decide) only [StableHlo.TRef.ofBuf_toBuf, hV.a0, hV.a1, hV.a2, hV.s]
  rfl

/-- The key is the seed's two halves, the high one first. -/
theorem key_of {p q : IVec S1 32} (c : Shape.Concatenates [S1, S1] S2 0) (hp : p = fun _ => 0#32) (hq : q = fun _ => 42#32) :
    concatenate S2 0 [⟨S1, p⟩, ⟨S1, q⟩] c = key := by
  subst hp hq
  funext i
  obtain ⟨r, rfl⟩ : ∃ r : Fin 2, i = ix1 r := ⟨i 0, eq_ix1 i⟩
  fin_cases r <;> rfl

/-- The reference's line. -/
theorem main_line (d : Dev nD) : Runs (main (F := Ideal) d) (Args x w b) (Done x w b) := by
  unfold main
  refine Runs.first (mid := Start x w b (logProb (logits x w b))) (by iterate 27 apply LeadsTo.step
                                                                      exact LeadsTo.here _) (by simp) ?_ (fun V hV => ?_)
    (draw_runs.andThen (Runs.first (mid := Summed x w b) (by iterate 1 apply LeadsTo.step
                                                             exact LeadsTo.here _) (by simp) ?_ (fun V hV => ?_) (choice_runs.andThen ?_)))
  · intro _ h; (repeat (cases h with | head => rfl | tail _ h => ?_)); exact nomatch h
  · refine ⟨?_, ?_, ?_, ?_, ?_⟩
    all_goals
      try unfold held
      after_reads_simp
      try simp (disch := decide) only [hV.a0, hV.a1, hV.a2]
    · rfl
    · refine key_of concatenates_S1_S1_S2_d0 ?_ ?_
      all_goals after_reads_simp
      · rfl
      · exact funext fun _ => (by decide : (42#32 &&& 4294967295#32) = 42#32)
  · intro _ h; (repeat (cases h with | head => rfl | tail _ h => ?_)); exact nomatch h
  · have g : V (Proc.devRef .tc main_v21) = draw := hV.g
    refine ⟨⟨?_, ?_, ?_⟩, ?_⟩
    all_goals
      try unfold held
      after_reads_simp
      simp (disch := decide) only [hV.a0, hV.a1, hV.a2, hV.l, g]
    rfl
  · refine ⟨_, by hlo_seq, by simp, ?_, fun V hV => ?_⟩
    · intro _ h; (repeat (cases h with | head => rfl | tail _ h => ?_)); exact nomatch h
    have i := hV.i
    refine ⟨⟨?_, ?_, ?_⟩, ?_⟩
    all_goals
      after_reads_simp
      try simp (disch := decide) only [hV.a0, hV.a1, hV.a2]
    exact congrArg (fun f : IVec S_ 32 => shapeCast S1 f shapeCasts_S_S1) i

/-- The reference's run: what it returns, and that it leaves its arguments and every semaphore as they were. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
    r.2.mem ((c.tc : Thread nD τ).loc main_v24)
      = traced (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0) := by
  obtain ⟨ops, hm, hs, hf, he⟩ := main_line (x := m (((0 : Dev nD).tc : Thread nD τ).loc main_arg0)) (w := m (((0 : Dev nD).tc : Thread nD τ).loc main_arg1))
    (b := m (((0 : Dev nD).tc : Thread nD τ).loc main_arg2)) (0 : Dev nD)
  refine θ_run_mono (StableHlo.run_hlo _ (main (F := Ideal)) (fun _ => hm) (by decide) (by decide) hs hf m ρ) fun r h =>
    ⟨fun c => ?_, sem_eq_zero_of_no_sems (by decide) r.2⟩
  obtain rfl : c = (0 : Dev nD) := Subsingleton.elim (α := Fin 1) c 0
  have D := he (StableHlo.launchContents m (0 : Dev nD)) ⟨rfl, rfl, rfl⟩
  exact ⟨(h 0 main_v24).trans D.o, (h 0 main_arg0).trans D.a0, (h 0 main_arg1).trans D.a1, (h 0 main_arg2).trans D.a2⟩

end Cert.Proof.Traced

end
-- ==== Proof.Bounds.lean ====
/-
  The reference's draw as three real numbers, each within `5e-8` of the word the kernel adds.
-/
module

public import proofs.«01_k».proof.Proof.Gumbel
public import proofs.«01_k».proof.Proof.Scores

@[expose] public section

set_option maxRecDepth 16384

noncomputable section

namespace Cert.Proof.Bounds

open Cert.ReferenceIdeal Cert.ReferenceIdeal.Gen Cert.ReferenceIdeal.Facts
open Idealize.ShloMosaic
open Cert.Proof.Line Cert.Proof.Gumbel Cert.Proof.Values
open Cert.Proof.Scores (noise noise_zero noise_one noise_two)

/-- The least normal number of the format. -/
def tiny : ℝ := 1 / 2 ^ 126

/-- The hash's three words, their upper bits taken as a fraction of one. -/
def frac : Fin 3 → ℝ
  | 0 => 4099593 / 8388608
  | 1 => 5702552 / 8388608
  | 2 => 5169660 / 8388608

/-- The three uniform numbers. -/
def unif (r : Fin 3) : ℝ := max tiny (frac r * (1 - tiny) + tiny)

/-- The three numbers drawn. -/
def gumbel (r : Fin 3) : ℝ := -Real.log (-Real.log (unif r))

/-! ## The words -/

theorem tiny_word : Ideal.ofBits .f32 0x00800000#32 = (tiny : EReal) := by
  simp [tiny, Ideal.ofBits, Ideal.ieee, -EReal.coe_mul]
  try norm_num

theorem word_zero : Ideal.ofBits .f32 0x3fbe8e09#32 = ((frac 0 + 1 : ℝ) : EReal) := by
  simp [frac, Ideal.ofBits, Ideal.ieee, -EReal.coe_mul, -EReal.coe_add]
  try norm_num

theorem word_one : Ideal.ofBits .f32 0x3fd70398#32 = ((frac 1 + 1 : ℝ) : EReal) := by
  simp [frac, Ideal.ofBits, Ideal.ieee, -EReal.coe_mul, -EReal.coe_add]
  try norm_num

theorem word_two : Ideal.ofBits .f32 0x3fcee1fc#32 = ((frac 2 + 1 : ℝ) : EReal) := by
  simp [frac, Ideal.ofBits, Ideal.ieee, -EReal.coe_mul, -EReal.coe_add]
  try norm_num

theorem words_real (r : Fin 3) : Ideal.ofBits .f32 (words 0x3fbe8e09 0x3fd70398 0x3fcee1fc (ix1 r)) = ((frac r + 1 : ℝ) : EReal) := by
  fin_cases r
  · exact word_zero
  · exact word_one
  · exact word_two

/-! ## The uniform numbers -/

theorem unif_eq (r : Fin 3) : unif r = frac r * (1 - tiny) + tiny := by
  refine max_eq_right ?_
  have : 0 ≤ frac r * (1 - tiny) := by
    refine mul_nonneg ?_ (by unfold tiny; norm_num)
    fin_cases r <;> norm_num [frac]
  linarith

theorem unif_pos (r : Fin 3) : 0 < unif r := lt_of_lt_of_le (by unfold tiny; norm_num) (le_max_left _ _)

theorem unif_lt_one (r : Fin 3) : unif r < 1 := by
  rw [unif_eq]; fin_cases r <;> norm_num [frac, tiny]

theorem uniform_real (r : Fin 3) : uniform (ix1 r) = (unif r : EReal) := by
  have h := words_real r
  unfold unif
  pointwise [uniform]
  rw [h, tiny_word, ← EReal.coe_one, ← EReal.coe_sub, ← EReal.coe_sub, ← EReal.coe_mul, ← EReal.coe_add, EReal.coe_strictMono.monotone.map_max]
  congr 5
  ring

theorem draw_real (r : Fin 3) : draw (ix1 r) = (gumbel r : EReal) := by
  have h := uniform_real r
  have hl : Real.log (unif r) < 0 := Real.log_neg (unif_pos r) (unif_lt_one r)
  unfold gumbel
  pointwise [draw]
  rw [h, log_real (unif_pos r), ← EReal.coe_neg, log_real (by linarith), ← EReal.coe_neg]

/-! ## How near the draw is to the kernel's words -/

/-- An exponential between zero and minus one, from its first fourteen terms. -/
theorem exp_near {x : ℝ} (h0 : 0 ≤ x) (h1 : x ≤ 1) :
    |Real.exp (-x) - ∑ m ∈ Finset.range 14, (-x) ^ m / m.factorial| ≤ 2 / 10 ^ 11 := by
  refine (Real.exp_bound (by rw [abs_neg, abs_of_nonneg h0]; exact h1) (n := 14) (by norm_num)).trans ?_
  rw [abs_neg, abs_of_nonneg h0]
  have : x ^ 14 ≤ 1 := pow_le_one₀ h0 h1
  have : x ^ 14 * ((Nat.succ 14 : ℕ) / ((Nat.factorial 14 : ℕ) * (14 : ℕ)) : ℝ) ≤ 1 * ((Nat.succ 14 : ℕ) / ((Nat.factorial 14 : ℕ) * (14 : ℕ)) : ℝ) :=
    mul_le_mul_of_nonneg_right this (by positivity)
  refine this.trans ?_
  norm_num [Nat.factorial]

theorem exp_le {x q : ℝ} (h0 : 0 ≤ x) (h1 : x ≤ 1) (h : ∑ m ∈ Finset.range 14, (-x) ^ m / m.factorial + 2 / 10 ^ 11 ≤ q) : Real.exp (-x) ≤ q := by
  have := (abs_le.1 (exp_near h0 h1)).2
  linarith

theorem le_exp {x q : ℝ} (h0 : 0 ≤ x) (h1 : x ≤ 1) (h : q ≤ ∑ m ∈ Finset.range 14, (-x) ^ m / m.factorial - 2 / 10 ^ 11) : q ≤ Real.exp (-x) := by
  have := (abs_le.1 (exp_near h0 h1)).1
  linarith

theorem neg_log_log_le {u c a : ℝ} (hu : 0 < u) (h1 : Real.exp (-c) ≤ a) (h2 : u ≤ Real.exp (-a)) : -Real.log (-Real.log u) ≤ c := by
  have h3 : Real.log u ≤ -a := (Real.log_le_iff_le_exp hu).2 h2
  have h4 : Real.exp (-c) ≤ -Real.log u := by linarith
  have h5 := (Real.le_log_iff_exp_le ((Real.exp_pos _).trans_le h4)).2 h4
  linarith

theorem le_neg_log_log {u c a : ℝ} (hu : 0 < u) (hu1 : u < 1) (h1 : a ≤ Real.exp (-c)) (h2 : Real.exp (-a) ≤ u) : c ≤ -Real.log (-Real.log u) := by
  have h3 : -a ≤ Real.log u := (Real.le_log_iff_exp_le hu).2 h2
  have h4 : -Real.log u ≤ Real.exp (-c) := by linarith
  have h5 := (Real.log_le_iff_le_exp (neg_pos.2 (Real.log_neg hu hu1))).2 h4
  linarith

theorem gumbel_le (r : Fin 3) : gumbel r ≤ noise r + 5 / 10 ^ 8 := by
  have hu := unif_eq r
  fin_cases r
  · refine (neg_log_log_le (c := 0.3340934261) (a := 0.71598689083) (unif_pos _) (exp_le (by norm_num) (by norm_num) ?_) (le_exp (by norm_num) (by norm_num) ?_)).trans ?_
    · norm_num [Finset.sum_range_succ, Nat.factorial]
    · rw [hu]; norm_num [Finset.sum_range_succ, Nat.factorial, frac, tiny]
    · norm_num [noise]
  · refine (neg_log_log_le (c := 0.9520194766) (a := 0.38596079903) (unif_pos _) (exp_le (by norm_num) (by norm_num) ?_) (le_exp (by norm_num) (by norm_num) ?_)).trans ?_
    · norm_num [Finset.sum_range_succ, Nat.factorial]
    · rw [hu]; norm_num [Finset.sum_range_succ, Nat.factorial, frac, tiny]
    · norm_num [noise]
  · refine (neg_log_log_le (c := 0.7255305727) (a := 0.48406767015) (unif_pos _) (exp_le (by norm_num) (by norm_num) ?_) (le_exp (by norm_num) (by norm_num) ?_)).trans ?_
    · norm_num [Finset.sum_range_succ, Nat.factorial]
    · rw [hu]; norm_num [Finset.sum_range_succ, Nat.factorial, frac, tiny]
    · norm_num [noise]

theorem le_gumbel (r : Fin 3) : noise r - 5 / 10 ^ 8 ≤ gumbel r := by
  have hu := unif_eq r
  fin_cases r
  · refine le_trans ?_ (le_neg_log_log (c := 0.3340934061) (a := 0.71598689799) (unif_pos _) (unif_lt_one _) (le_exp (by norm_num) (by norm_num) ?_) (exp_le (by norm_num) (by norm_num) ?_))
    · norm_num [noise]
    · norm_num [Finset.sum_range_succ, Nat.factorial]
    · rw [hu]; norm_num [Finset.sum_range_succ, Nat.factorial, frac, tiny]
  · refine le_trans ?_ (le_neg_log_log (c := 0.9520194566) (a := 0.38596080289) (unif_pos _) (unif_lt_one _) (le_exp (by norm_num) (by norm_num) ?_) (exp_le (by norm_num) (by norm_num) ?_))
    · norm_num [noise]
    · norm_num [Finset.sum_range_succ, Nat.factorial]
    · rw [hu]; norm_num [Finset.sum_range_succ, Nat.factorial, frac, tiny]
  · refine le_trans ?_ (le_neg_log_log (c := 0.7255305527) (a := 0.48406767499) (unif_pos _) (unif_lt_one _) (le_exp (by norm_num) (by norm_num) ?_) (exp_le (by norm_num) (by norm_num) ?_))
    · norm_num [noise]
    · norm_num [Finset.sum_range_succ, Nat.factorial]
    · rw [hu]; norm_num [Finset.sum_range_succ, Nat.factorial, frac, tiny]

end Cert.Proof.Bounds

end
-- ==== Proof.Margin.lean ====
/-
  The precondition of the claim with the traced draw, read: real inputs, and one score that leads the other two by the margin.
-/
module

public import proofs.«01_k».proof.Proof.Inputs
public import proofs.«01_k».proof.Proof.Gen.Pre_separated

@[expose] public section

set_option maxRecDepth 16384

noncomputable section

namespace Cert.Proof.Margin

open Cert.Pre_separated Cert.Pre_separated.Gen
open Idealize.ShloMosaic Cert.Proof.Values Cert.Proof.Soft Cert.Proof.Scores Cert.Proof.Inputs

variable {X : FVec Ideal S16x16 .f32} {W : FVec Ideal S3x256 .f32} {b : FVec Ideal S3 .f32}

/-- The margin, as a number. -/
def margin : ℝ := 14073749 / 2 ^ 47

theorem margin_word : Ideal.ofBits .f32 0x33D6BF95#32 = (margin : EReal) := by
  simp [margin, Ideal.ofBits, Ideal.ieee, -EReal.coe_mul]
  norm_num

/-- The kernel's scores. -/
def scores (X : FVec Ideal S16x16 .f32) (W : FVec Ideal S3x256 .f32) (b : FVec Ideal S3 .f32) : FVec Ideal S3 .f32 :=
  addf (logits X W b) fun i => FloatOps.ofBits .f32 (lit0 (S3.rowMajor i))

theorem scores_real (H : AllReal X W b) (r : Fin 3) : scores X W b (ix1 r) = (part (xOf X) (wOf W) (bOf b) 256 r : EReal) := by
  have h : (FloatOps.ofBits .f32 (lit0 (S3.rowMajor (ix1 r))) : Ideal .f32) = (noise r : EReal) := by
    have hr : S3.rowMajor (ix1 r) = r := Fin.ext (Shape.rowMajor_val_one (ix1 r))
    rw [hr]; exact noise_table r
  show logits X W b (ix1 r) + FloatOps.ofBits .f32 (lit0 (S3.rowMajor (ix1 r))) = _
  rw [h, logits_real H, ← EReal.coe_add]
  congr 1
  unfold part
  ring

/-- The scores that exceed the greatest less the margin, marked. -/
def near (s : FVec Ideal S3 .f32) : IVec S3 1 :=
  cmpf .ogt s (broadcastInDim S3 ![] bcast_S_S3 (subf (Host.reduce FloatOps.maximumf s (constant S_ .f32 0xFF800000#32) reducesTo_S3_S_d0 h_S_) (constant S_ .f32 0x33D6BF95#32)))

/-- How many are marked. -/
def count (n : IVec S3 1) : IVec S_ 32 := Host.reduce IntOp.addi (extui 32 n natLt_1_32) (constantI S_ 32 0#32) reducesTo_S3_S_d0 h_S_

theorem eq_of_cmpi {x y : BitVec 32} (h : IntOp.cmpi .eq x y = 1#1) : x = y := by
  by_contra hn
  have h0 : IntOp.cmpi .eq x y = 0#1 := by
    show BitVec.ofBool (x == y) = 0#1
    rw [beq_eq_false_iff_ne.2 hn]; rfl
  rw [h0] at h
  exact absurd h (by decide)

theorem separated_parts (h : Cert.Pre_separated.fn (F := Ideal) X W b = fun _ => 1#1) : AllReal X W b ∧ count (near (scores X W b)) (fun i => i.elim0) = 1#32 := by
  have h0 := congrFun h (fun i => i.elim0)
  unfold Cert.Pre_separated.fn Cert.Pre_separated.fn_part1 at h0
  obtain ⟨h17, h24⟩ := IntOp.andi_eq_one.1 h0
  obtain ⟨h12, h3⟩ := IntOp.andi_eq_one.1 h17
  obtain ⟨h1, h2⟩ := IntOp.andi_eq_one.1 h12
  refine ⟨⟨fun i => real_of_olt (Host.reduce_andi_all _ _ _ _ _ h1 i), fun i => real_of_olt (Host.reduce_andi_all _ _ _ _ _ h2 i),
    fun i => real_of_olt (Host.reduce_andi_all _ _ _ _ _ h3 i)⟩, ?_⟩
  exact eq_of_cmpi h24

theorem near_real (s : FVec Ideal S3 .f32) (z : Fin 3 → ℝ) (hs : ∀ r, s (ix1 r) = (z r : EReal)) (r : Fin 3) :
    near s (ix1 r) = BitVec.ofBool (decide (max (z 0) (max (z 1) (z 2)) - margin < z r)) := by
  pointwise [near]
  simp only [hs, ofBits_bot, fold_max_real, margin_word, ← EReal.coe_sub]
  exact congrArg BitVec.ofBool (decide_eq_decide.2 EReal.coe_lt_coe_iff)

theorem count_three (n : IVec S3 1) (j : S_.Idx) : count n j = 0#32 + (n (ix1 0)).setWidth 32 + (n (ix1 1)).setWidth 32 + (n (ix1 2)).setWidth 32 := by
  have hs : Subsingleton S_.Idx := ⟨fun a b => funext fun i => i.elim0⟩
  unfold count
  rw [Host.reduce_eq_foldl, List.filter_eq_self.2 fun _ _ => decide_eq_true (Subsingleton.elim _ _)]
  rw [show ((List.finRange S3.numel).map S3.rowMajor.symm) = [ix1 0, ix1 1, ix1 2] by
    simp only [← symm_ix1]; rfl]
  rfl

theorem only_one : ∀ p0 p1 p2 : Bool, 0#32 + (BitVec.ofBool p0).setWidth 32 + (BitVec.ofBool p1).setWidth 32 + (BitVec.ofBool p2).setWidth 32 = 1#32 →
    (p0 && p1) = false ∧ (p0 && p2) = false ∧ (p1 && p2) = false := by decide

/-- Of three numbers one is near the greatest: it leads the other two by the margin. -/
theorem lead (z : Fin 3 → ℝ) (s : FVec Ideal S3 .f32) (hs : ∀ r, s (ix1 r) = (z r : EReal)) (h : count (near s) (fun i => i.elim0) = 1#32) :
    ∃ k, ∀ r, r ≠ k → z r + margin ≤ z k := by
  rw [count_three, near_real s z hs, near_real s z hs, near_real s z hs] at h
  obtain ⟨h01, h02, h12⟩ := only_one _ _ _ h
  simp only [← Bool.decide_and, decide_eq_false_iff_not, not_and, not_lt] at h01 h02 h12
  have hm : 0 < margin := by norm_num [margin]
  have e0 : z 0 ≤ max (z 0) (max (z 1) (z 2)) := le_max_left _ _
  have e1 : z 1 ≤ max (z 0) (max (z 1) (z 2)) := (le_max_left _ _).trans (le_max_right _ _)
  have e2 : z 2 ≤ max (z 0) (max (z 1) (z 2)) := (le_max_right _ _).trans (le_max_right _ _)
  have hM : max (z 0) (max (z 1) (z 2)) = z 0 ∨ max (z 0) (max (z 1) (z 2)) = z 1 ∨ max (z 0) (max (z 1) (z 2)) = z 2 := by
    rcases max_choice (z 0) (max (z 1) (z 2)) with q | q
    · exact .inl q
    · rcases max_choice (z 1) (z 2) with q' | q'
      · exact .inr (.inl (q.trans q'))
      · exact .inr (.inr (q.trans q'))
  rcases hM with q | q | q <;> rw [q] at h01 h02 h12 e0 e1 e2
  · refine ⟨0, fun r hr => ?_⟩
    have g1 := h01 (by linarith)
    have g2 := h02 (by linarith)
    fin_cases r
    · exact absurd rfl hr
    · show z 1 + margin ≤ z 0; linarith
    · show z 2 + margin ≤ z 0; linarith
  · refine ⟨1, fun r hr => ?_⟩
    have g0 : z 0 ≤ z 1 - margin := by by_contra hn; linarith [h01 (not_le.1 hn)]
    have g2 := h12 (by linarith)
    fin_cases r
    · show z 0 + margin ≤ z 1; linarith
    · exact absurd rfl hr
    · show z 2 + margin ≤ z 1; linarith
  · refine ⟨2, fun r hr => ?_⟩
    have g0 : z 0 ≤ z 2 - margin := by by_contra hn; linarith [h02 (not_le.1 hn)]
    have g1 : z 1 ≤ z 2 - margin := by by_contra hn; linarith [h12 (not_le.1 hn)]
    fin_cases r
    · show z 0 + margin ≤ z 2; linarith
    · show z 1 + margin ≤ z 2; linarith
    · exact absurd rfl hr

/-- The precondition: every input is a real number, and one of the kernel's scores leads the other two by the margin. -/
theorem separated_real (h : Cert.Pre_separated.fn (F := Ideal) X W b = fun _ => 1#1) :
    AllReal X W b ∧ ∃ k, ∀ r, r ≠ k → part (xOf X) (wOf W) (bOf b) 256 r + margin ≤ part (xOf X) (wOf W) (bOf b) 256 k :=
  ⟨(separated_parts h).1, lead _ _ (scores_real (separated_parts h).1) (separated_parts h).2⟩

end Cert.Proof.Margin

end
-- ==== Proof.TracedClaims.lean ====
/-
  The claims about the kernel and the reference with its draw traced.
-/
module

public import proofs.«01_k».proof.Proof.Claims
public import proofs.«01_k».proof.Proof.Traced
public import proofs.«01_k».proof.Proof.Bounds
public import proofs.«01_k».proof.Proof.Margin

@[expose] public section

noncomputable section

namespace Cert.Proof

open Idealize.ShloMosaic Idealize.SL.Sem
open Cert.KernelIdeal.Gen Cert.ReferenceIdeal.Gen
open Cert.Proof.Values Cert.Proof.Soft Cert.Proof.Scores Cert.Proof.Inputs Cert.Proof.Bounds Cert.Proof.Margin
open Cert.Proof.Drawn (choice_real)
open Cert.Proof.Traced (traced)

theorem frame_traced : Cert.quiescent_ReferenceIdeal := fun m ρ _ =>
  (θ_run Cert.ReferenceIdeal.defs _ _).mono (fun _ h => ⟨fun c => (h.1 c).2, h.2⟩) (Traced.run_main m ρ)

variable {X : FVec Ideal Cert.ReferenceIdeal.S16x16 .f32} {W : FVec Ideal Cert.ReferenceIdeal.S3x256 .f32} {b : FVec Ideal Cert.ReferenceIdeal.S3 .f32}

/-- At real inputs the reference returns the index of the greatest of its own scores. -/
theorem traced_real (H : AllReal X W b) :
    traced X W b = fun _ => first fun r => bOf b r + gumbel r + ∑ i ∈ Finset.range 256, wOf W r i * xOf X i := by
  obtain ⟨c, hc⟩ := logProb_real _ _ (logits_real H)
  rw [← first_shift _ c]
  refine choice_real _ _ fun r => ?_
  show Gumbel.draw (ix1 r) + logProb (logits X W b) (ix1 r) = _
  rw [draw_real, hc, ← EReal.coe_add]
  congr 1
  ring

/-- Where one score leads by the margin the two draws choose one index. -/
theorem traced_first (h : Cert.Pre_separated.fn (F := Ideal) X W b = fun _ => 1#1) : traced X W b = fun _ => first (part (xOf X) (wOf W) (bOf b) 256) := by
  obtain ⟨H, k, hk⟩ := separated_real h
  have hm : (1 : ℝ) / 10 ^ 7 < margin := by norm_num [margin]
  rw [traced_real H]
  refine funext fun _ => first_of_gap k (fun r hr => ?_) fun r hr => ?_
  · have h1 := hk r hr
    have h2 := gumbel_le r
    have h3 := le_gumbel k
    unfold part at h1
    show bOf b r + gumbel r + _ < bOf b k + gumbel k + _
    linarith
  · have h1 := hk r hr
    linarith

theorem value_traced : Cert.algebraic_KernelIdeal_ReferenceIdeal_pre_separated := by
  intro m ρ m' ρ' hpre hagree
  refine ⟨fun c _ => Route.answer m c, (θ_run Cert.KernelIdeal.defs _ _).mono (fun _ h c => h.1 c) (Route.run_main (F := Ideal) m ρ),
    (θ_run Cert.ReferenceIdeal.defs _ _).mono (fun r h c => ?_) (Traced.run_main m' ρ')⟩
  refine ⟨?_, (h.1 c).2⟩
  have H := hpre c
  refine (h.1 c).1.trans ?_
  rw [(hagree c).1, (hagree c).2.1, (hagree c).2.2]
  refine (traced_first H).trans ?_
  exact funext fun _ => (answer_eq (separated_real H).1 _ _).symm

end Cert.Proof

end
-- ==== Proof.lean ====
/-
  The certificate: the kernel's run (Proof/Run.lean), the runs of the reference with its draw traced and evaluated, and the values they share.
-/
module

public import proofs.«01_k».proof.Defs
public import proofs.«01_k».proof.Proof.Gen.Kernel
public import proofs.«01_k».proof.Proof.Gen.KernelIdeal
public import proofs.«01_k».proof.Proof.Gen.DrawnIdeal
public import proofs.«01_k».proof.Proof.Gen.Pre_finite
public import proofs.«01_k».proof.Proof.Gen.Pre_separated
public import proofs.«01_k».proof.Proof.Gen.ReferenceIdeal
public import proofs.«01_k».proof.Proof.Claims
public import proofs.«01_k».proof.Proof.TracedClaims

@[expose] public section

noncomputable section

namespace Cert.Proof

theorem claim : Cert.Claim := ⟨Cert.Kernel.Gen.facts, Cert.KernelIdeal.Gen.facts, Cert.ReferenceIdeal.Gen.facts, Cert.DrawnIdeal.Gen.facts,
  Cert.Pre_finite.Gen.facts, Cert.Pre_separated.Gen.facts,
  frame_kernel, frame_ideal, fun m ρ _ => frame_ideal m ρ trivial, fun m ρ _ => frame_ideal m ρ trivial,
  frame_traced, fun m ρ _ => frame_traced m ρ trivial, frame_drawn, fun m ρ _ => frame_drawn m ρ trivial, trivial, value_drawn, value_traced⟩

end Cert.Proof

end
